-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v235) = v0 c
          ∧ r.2.mem ((c.tc : Thread Cert.ReferenceIdeal.nD Cert.ReferenceIdeal.τ).loc Cert.ReferenceIdeal.main_v260) = v1 c
          ∧ r.2.mem ((c.tc : Thread Cert.ReferenceIdeal.nD Cert.ReferenceIdeal.τ).loc Cert.ReferenceIdeal.main_v261) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16384x256 : Shape := ⟨2, ![16384, 256]⟩
abbrev S1 : Shape := ⟨1, ![1]⟩
abbrev S8192x256 : Shape := ⟨2, ![8192, 256]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_

variable [Facts]

def fn {F : FTy → Type} [FloatOps F] (main_arg0 : FVec F S16384x256 .f32) (main_arg1 : FVec F S1 .f32) (main_arg2 : FVec F S8192x256 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S8192x256 .f32 := Host.absf main_arg2
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  main_v8
-- ==== Kernel.lean ====
abbrev S16384x256 : Shape := ⟨2, ![16384, 256]⟩
abbrev S1 : Shape := ⟨1, ![1]⟩
abbrev S8192x256 : Shape := ⟨2, ![8192, 256]⟩
abbrev S_ : Shape := ⟨0, ![]⟩
abbrev S256x8192 : Shape := ⟨2, ![256, 8192]⟩
abbrev S128x256 : Shape := ⟨2, ![128, 256]⟩
abbrev S1x8192 : Shape := ⟨2, ![1, 8192]⟩
abbrev S2 : Shape := ⟨1, ![2]⟩
abbrev S128x8192 : Shape := ⟨2, ![128, 8192]⟩
abbrev S8192 : Shape := ⟨1, ![8192]⟩
abbrev S128 : Shape := ⟨1, ![128]⟩
abbrev S128x1 : Shape := ⟨2, ![128, 1]⟩
abbrev S1x128x8192 : Shape := ⟨3, ![1, 128, 8192]⟩
abbrev S1x1x1 : Shape := ⟨3, ![1, 1, 1]⟩
abbrev S1x128x1 : Shape := ⟨3, ![1, 128, 1]⟩
abbrev S1x128x256 : Shape := ⟨3, ![1, 128, 256]⟩
abbrev S1x1x8192 : Shape := ⟨3, ![1, 1, 8192]⟩

abbrev nBuf : Space → Nat
  | .hbm => 14
  | .vmem => 11
  | .smem => 4
  | _ => 0

abbrev bufTy : (tb : Table) → Fin (tcTables nBuf tb) → BufTy
  | .hbm, ⟨0, _⟩ => ⟨S16384x256, .f32⟩
  | .hbm, ⟨1, _⟩ => ⟨S1, .f32⟩
  | .hbm, ⟨2, _⟩ => ⟨S8192x256, .f32⟩
  | .hbm, ⟨3, _⟩ => ⟨S_, .f32⟩
  | .hbm, ⟨4, _⟩ => ⟨S_, .f32⟩
  | .hbm, ⟨5, _⟩ => ⟨S1, .f32⟩
  | .hbm, ⟨6, _⟩ => ⟨S1, .f32⟩
  | .hbm, ⟨7, _⟩ => ⟨S_, .f32⟩
  | .hbm, ⟨8, _⟩ => ⟨S1, .f32⟩
  | .hbm, ⟨9, _⟩ => ⟨S1, .f32⟩
  | .hbm, ⟨10, _⟩ => ⟨S256x8192, .f32⟩
  | .hbm, ⟨11, _⟩ => ⟨S16384x256, .f32⟩
  | .hbm, ⟨12, _⟩ => ⟨S1, .f32⟩
  | .hbm, ⟨13, _⟩ => ⟨S1, .f32⟩
  | .local _ .vmem, ⟨0, _⟩ => ⟨S128x256, .f32⟩
  | .local _ .vmem, ⟨1, _⟩ => ⟨S128x256, .f32⟩
  | .local _ .vmem, ⟨2, _⟩ => ⟨S256x8192, .f32⟩
  | .local _ .vmem, ⟨3, _⟩ => ⟨S8192x256, .f32⟩
  | .local _ .vmem, ⟨4, _⟩ => ⟨S128x256, .f32⟩
  | .local _ .vmem, ⟨5, _⟩ => ⟨S128x256, .f32⟩
  | .local _ .vmem, ⟨6, _⟩ => ⟨S1x8192, .f32⟩
  | .local _ .vmem, ⟨7, _⟩ => ⟨S1x8192, .f32⟩
  | .local _ .vmem, ⟨8, _⟩ => ⟨S128x8192, .i32⟩
  | .local _ .vmem, ⟨9, _⟩ => ⟨S256x8192, .bf16⟩
  | .local _ .vmem, ⟨10, _⟩ => ⟨S8192x256, .bf16⟩
  | .local _ .smem, ⟨0, _⟩ => ⟨S1, .f32⟩
  | .local _ .smem, ⟨1, _⟩ => ⟨S1, .f32⟩
  | .local _ .smem, ⟨2, _⟩ => ⟨S1, .f32⟩
  | .local _ .smem, ⟨3, _⟩ => ⟨S2, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_call0_v0 : Ref sig .tc := ⟨.hbm, 4, rfl⟩
abbrev main_call0_v1 : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_stg0_0 : Ref sig .tc := ⟨.smem, 0, rfl⟩
abbrev cc0_stg5_0 : Ref sig .tc := ⟨.smem, 1, rfl⟩
abbrev cc0_stg6_0 : Ref sig .tc := ⟨.smem, 2, rfl⟩
abbrev cc0_scratch2 : Ref sig .tc := ⟨.smem, 3, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![128], ![false]⟩

def k0_cond2 (i : grid0.Coords) : BitVec 1 :=
  let arg0 : BitVec 32 := BitVec.ofNat 32 (i 0).val
  let c127_i32 : BitVec 32 := 127#32
  let v261 : BitVec 1 := Scalar.cmpi .eq arg0 c127_i32
  let v262 : BitVec 32 := Scalar.extui v261
  let c0_i32_72 : BitVec 32 := 0#32
  let v263 : BitVec 1 := Scalar.cmpi .ne v262 c0_i32_72
  v263

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8192x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .smem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .smem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S16384x256 : Shape := ⟨2, ![16384, 256]⟩
abbrev S1 : Shape := ⟨1, ![1]⟩
abbrev S8192x256 : Shape := ⟨2, ![8192, 256]⟩
abbrev S_ : Shape := ⟨0, ![]⟩
abbrev S16384 : Shape := ⟨1, ![16384]⟩
abbrev S16384x1 : Shape := ⟨2, ![16384, 1]⟩
abbrev S8192 : Shape := ⟨1, ![8192]⟩
abbrev S1x8192 : Shape := ⟨2, ![1, 8192]⟩
abbrev S16384x8192 : Shape := ⟨2, ![16384, 8192]⟩
abbrev S256x8192 : Shape := ⟨2, ![256, 8192]⟩
abbrev S1x1 : Shape := ⟨2, ![1, 1]⟩

abbrev nBuf : Space → Nat
  | .hbm => 363
  | .vmem => 0
  | .smem => 0
  | _ => 0

abbrev hbmTy0_0 (i : Nat) : BufTy := match i % 128 with
  | 0 => ⟨S16384x256, .f32⟩
  | 1 => ⟨S1, .f32⟩
  | 2 => ⟨S8192x256, .f32⟩
  | 3 => ⟨S_, .f32⟩
  | 4 => ⟨S_, .f32⟩
  | 5 => ⟨S1, .f32⟩
  | 6 => ⟨S1, .f32⟩
  | 7 => ⟨S_, .f32⟩
  | 8 => ⟨S1, .f32⟩
  | 9 => ⟨S1, .f32⟩
  | 10 => ⟨S16384x256, .f32⟩
  | 11 => ⟨S_, .f32⟩
  | 12 => ⟨S16384, .f32⟩
  | 13 => ⟨S16384x1, .f32⟩
  | 14 => ⟨S8192x256, .f32⟩
  | 15 => ⟨S_, .f32⟩
  | 16 => ⟨S8192, .f32⟩
  | 17 => ⟨S1x8192, .f32⟩
  | 18 => ⟨S16384x8192, .f32⟩
  | 19 => ⟨S16384x8192, .f32⟩
  | 20 => ⟨S16384x8192, .f32⟩
  | 21 => ⟨S256x8192, .f32⟩
  | 22 => ⟨S16384x8192, .f32⟩
  | 23 => ⟨S_, .f32⟩
  | 24 => ⟨S16384x8192, .f32⟩
  | 25 => ⟨S16384x8192, .f32⟩
  | 26 => ⟨S16384x8192, .f32⟩
  | 27 => ⟨S_, .f32⟩
  | 28 => ⟨S1, .f32⟩
  | 29 => ⟨S1, .f32⟩
  | 30 => ⟨S1, .f32⟩
  | 31 => ⟨S1x1, .f32⟩
  | 32 => ⟨S16384x8192, .f32⟩
  | 33 => ⟨S16384x8192, .f32⟩
  | 34 => ⟨S_, .f32⟩
  | 35 => ⟨S16384, .f32⟩
  | 36 => ⟨S_, .f32⟩
  | 37 => ⟨S16384, .f32⟩
  | 38 => ⟨S16384, .f32⟩
  | 39 => ⟨S16384x1, .f32⟩
  | 40 => ⟨S16384x8192, .f32⟩
  | 41 => ⟨S16384x8192, .f32⟩
  | 42 => ⟨S16384x8192, .f32⟩
  | 43 => ⟨S_, .f32⟩
  | 44 => ⟨S16384, .f32⟩
  | 45 => ⟨S16384x1, .f32⟩
  | 46 => ⟨S16384x8192, .f32⟩
  | 47 => ⟨S16384x8192, .f32⟩
  | 48 => ⟨S_, .f32⟩
  | 49 => ⟨S16384, .f32⟩
  | 50 => ⟨S_, .f32⟩
  | 51 => ⟨S16384, .f32⟩
  | 52 => ⟨S16384, .f32⟩
  | 53 => ⟨S16384x1, .f32⟩
  | 54 => ⟨S16384x8192, .f32⟩
  | 55 => ⟨S16384x8192, .f32⟩
  | 56 => ⟨S16384x8192, .f32⟩
  | 57 => ⟨S_, .f32⟩
  | 58 => ⟨S16384, .f32⟩
  | 59 => ⟨S16384x1, .f32⟩
  | 60 => ⟨S16384x1, .f32⟩
  | 61 => ⟨S16384x8192, .f32⟩
  | 62 => ⟨S16384x8192, .f32⟩
  | 63 => ⟨S16384x8192, .i32⟩
  | 64 => ⟨S_, .i32⟩
  | 65 => ⟨S16384x8192, .i32⟩
  | 66 => ⟨S16384x8192, .i32⟩
  | 67 => ⟨S16384x8192, .i32⟩
  | 68 => ⟨S16384x8192, .i32⟩
  | 69 => ⟨S_, .i32⟩
  | 70 => ⟨S16384x8192, .i32⟩
  | 71 => ⟨S_, .i32⟩
  | 72 => ⟨S16384x8192, .i32⟩
  | 73 => ⟨S16384x8192, .i32⟩
  | 74 => ⟨S_, .i32⟩
  | 75 => ⟨S16384x8192, .i32⟩
  | 76 => ⟨S16384x8192, .i32⟩
  | 77 => ⟨S16384x8192, .i32⟩
  | 78 => ⟨S_, .i32⟩
  | 79 => ⟨S16384x8192, .i32⟩
  | 80 => ⟨S16384x8192, .i32⟩
  | 81 => ⟨S_, .i32⟩
  | 82 => ⟨S16384x8192, .i32⟩
  | 83 => ⟨S16384x8192, .i32⟩
  | 84 => ⟨S16384x8192, .i32⟩
  | 85 => ⟨S16384x8192, .i32⟩
  | 86 => ⟨S16384x8192, .i32⟩
  | 87 => ⟨S_, .i32⟩
  | 88 => ⟨S16384x8192, .i32⟩
  | 89 => ⟨S16384x8192, .i32⟩
  | 90 => ⟨S_, .i32⟩
  | 91 => ⟨S16384x8192, .i32⟩
  | 92 => ⟨S16384x8192, .i32⟩
  | 93 => ⟨S16384x8192, .i32⟩
  | 94 => ⟨S16384x8192, .i32⟩
  | 95 => ⟨S16384x8192, .i32⟩
  | 96 => ⟨S_, .i32⟩
  | 97 => ⟨S16384x8192, .i32⟩
  | 98 => ⟨S16384x8192, .i32⟩
  | 99 => ⟨S_, .i32⟩
  | 100 => ⟨S16384x8192, .i32⟩
  | 101 => ⟨S16384x8192, .i32⟩
  | 102 => ⟨S16384x8192, .i32⟩
  | 103 => ⟨S16384x8192, .i32⟩
  | 104 => ⟨S16384x8192, .i32⟩
  | 105 => ⟨S_, .i32⟩
  | 106 => ⟨S16384x8192, .i32⟩
  | 107 => ⟨S16384x8192, .i32⟩
  | 108 => ⟨S_, .i32⟩
  | 109 => ⟨S16384x8192, .i32⟩
  | 110 => ⟨S16384x8192, .i32⟩
  | 111 => ⟨S16384x8192, .i32⟩
  | 112 => ⟨S16384x8192, .i32⟩
  | 113 => ⟨S_, .i32⟩
  | 114 => ⟨S16384x8192, .i32⟩
  | 115 => ⟨S16384x8192, .i32⟩
  | 116 => ⟨S_, .i32⟩
  | 117 => ⟨S16384x8192, .i32⟩
  | 118 => ⟨S16384x8192, .i32⟩
  | 119 => ⟨S16384x8192, .i32⟩
  | 120 => ⟨S_, .i32⟩
  | 121 => ⟨S16384x8192, .i32⟩
  | 122 => ⟨S16384x8192, .i32⟩
  | 123 => ⟨S_, .i32⟩
  | 124 => ⟨S16384x8192, .i32⟩
  | 125 => ⟨S16384x8192, .i32⟩
  | 126 => ⟨S16384x8192, .i32⟩
  | 127 => ⟨S16384x8192, .i32⟩
  | _ => ⟨S16384x256, .f32⟩

abbrev hbmTy0_1 (i : Nat) : BufTy := match i % 128 with
  | 0 => ⟨S16384x8192, .i32⟩
  | 1 => ⟨S_, .i32⟩
  | 2 => ⟨S16384x8192, .i32⟩
  | 3 => ⟨S16384x8192, .i32⟩
  | 4 => ⟨S_, .i32⟩
  | 5 => ⟨S16384x8192, .i32⟩
  | 6 => ⟨S16384x8192, .i32⟩
  | 7 => ⟨S16384x8192, .i32⟩
  | 8 => ⟨S16384x8192, .i32⟩
  | 9 => ⟨S16384x8192, .i32⟩
  | 10 => ⟨S_, .i32⟩
  | 11 => ⟨S16384x8192, .i32⟩
  | 12 => ⟨S16384x8192, .i32⟩
  | 13 => ⟨S_, .i32⟩
  | 14 => ⟨S16384x8192, .i32⟩
  | 15 => ⟨S16384x8192, .i32⟩
  | 16 => ⟨S16384x8192, .i32⟩
  | 17 => ⟨S16384x8192, .i32⟩
  | 18 => ⟨S16384x8192, .i32⟩
  | 19 => ⟨S_, .i32⟩
  | 20 => ⟨S16384x8192, .i32⟩
  | 21 => ⟨S16384x8192, .i32⟩
  | 22 => ⟨S_, .i32⟩
  | 23 => ⟨S16384x8192, .i32⟩
  | 24 => ⟨S16384x8192, .i32⟩
  | 25 => ⟨S16384x8192, .i32⟩
  | 26 => ⟨S16384x8192, .i32⟩
  | 27 => ⟨S_, .i32⟩
  | 28 => ⟨S16384x8192, .i32⟩
  | 29 => ⟨S16384x8192, .i32⟩
  | 30 => ⟨S_, .i32⟩
  | 31 => ⟨S16384x8192, .i32⟩
  | 32 => ⟨S16384x8192, .i32⟩
  | 33 => ⟨S16384x8192, .i32⟩
  | 34 => ⟨S_, .i32⟩
  | 35 => ⟨S16384x8192, .i32⟩
  | 36 => ⟨S16384x8192, .i32⟩
  | 37 => ⟨S_, .i32⟩
  | 38 => ⟨S16384x8192, .i32⟩
  | 39 => ⟨S16384x8192, .i32⟩
  | 40 => ⟨S16384x8192, .i32⟩
  | 41 => ⟨S16384x8192, .i32⟩
  | 42 => ⟨S16384x8192, .i32⟩
  | 43 => ⟨S_, .i32⟩
  | 44 => ⟨S16384x8192, .i32⟩
  | 45 => ⟨S16384x8192, .i32⟩
  | 46 => ⟨S_, .i32⟩
  | 47 => ⟨S16384x8192, .i32⟩
  | 48 => ⟨S16384x8192, .i32⟩
  | 49 => ⟨S16384x8192, .i32⟩
  | 50 => ⟨S16384x8192, .i32⟩
  | 51 => ⟨S16384x8192, .i32⟩
  | 52 => ⟨S_, .i32⟩
  | 53 => ⟨S16384x8192, .i32⟩
  | 54 => ⟨S16384x8192, .i32⟩
  | 55 => ⟨S_, .i32⟩
  | 56 => ⟨S16384x8192, .i32⟩
  | 57 => ⟨S16384x8192, .i32⟩
  | 58 => ⟨S16384x8192, .i32⟩
  | 59 => ⟨S16384x8192, .i32⟩
  | 60 => ⟨S16384x8192, .i32⟩
  | 61 => ⟨S_, .i32⟩
  | 62 => ⟨S16384x8192, .i32⟩
  | 63 => ⟨S16384x8192, .i32⟩
  | 64 => ⟨S_, .i32⟩
  | 65 => ⟨S16384x8192, .i32⟩
  | 66 => ⟨S16384x8192, .i32⟩
  | 67 => ⟨S16384x8192, .i32⟩
  | 68 => ⟨S16384x8192, .i32⟩
  | 69 => ⟨S_, .i32⟩
  | 70 => ⟨S16384x8192, .i32⟩
  | 71 => ⟨S16384x8192, .i32⟩
  | 72 => ⟨S_, .i32⟩
  | 73 => ⟨S16384x8192, .i32⟩
  | 74 => ⟨S16384x8192, .i32⟩
  | 75 => ⟨S16384x8192, .i32⟩
  | 76 => ⟨S_, .i32⟩
  | 77 => ⟨S16384x8192, .i32⟩
  | 78 => ⟨S16384x8192, .i32⟩
  | 79 => ⟨S_, .i32⟩
  | 80 => ⟨S16384x8192, .i32⟩
  | 81 => ⟨S16384x8192, .i32⟩
  | 82 => ⟨S16384x8192, .i32⟩
  | 83 => ⟨S16384x8192, .i32⟩
  | 84 => ⟨S16384x8192, .i32⟩
  | 85 => ⟨S_, .i32⟩
  | 86 => ⟨S16384x8192, .i32⟩
  | 87 => ⟨S16384x8192, .i32⟩
  | 88 => ⟨S_, .i32⟩
  | 89 => ⟨S16384x8192, .i32⟩
  | 90 => ⟨S16384x8192, .i32⟩
  | 91 => ⟨S16384x8192, .i32⟩
  | 92 => ⟨S16384x8192, .i32⟩
  | 93 => ⟨S16384x8192, .i32⟩
  | 94 => ⟨S_, .i32⟩
  | 95 => ⟨S16384x8192, .i32⟩
  | 96 => ⟨S16384x8192, .i32⟩
  | 97 => ⟨S_, .i32⟩
  | 98 => ⟨S16384x8192, .i32⟩
  | 99 => ⟨S16384x8192, .i32⟩
  | 100 => ⟨S16384x8192, .i32⟩
  | 101 => ⟨S16384x8192, .i32⟩
  | 102 => ⟨S16384x8192, .i32⟩
  | 103 => ⟨S_, .i32⟩
  | 104 => ⟨S16384x8192, .i32⟩
  | 105 => ⟨S16384x8192, .i32⟩
  | 106 => ⟨S_, .i32⟩
  | 107 => ⟨S16384x8192, .i32⟩
  | 108 => ⟨S16384x8192, .i32⟩
  | 109 => ⟨S16384x8192, .i32⟩
  | 110 => ⟨S16384x8192, .i32⟩
  | 111 => ⟨S_, .i32⟩
  | 112 => ⟨S16384x8192, .i32⟩
  | 113 => ⟨S16384x8192, .i32⟩
  | 114 => ⟨S_, .i32⟩
  | 115 => ⟨S16384x8192, .i32⟩
  | 116 => ⟨S16384x8192, .i32⟩
  | 117 => ⟨S16384x8192, .i32⟩
  | 118 => ⟨S_, .i32⟩
  | 119 => ⟨S16384x8192, .i32⟩
  | 120 => ⟨S16384x8192, .i32⟩
  | 121 => ⟨S_, .i32⟩
  | 122 => ⟨S16384x8192, .i32⟩
  | 123 => ⟨S16384x8192, .i32⟩
  | 124 => ⟨S16384x8192, .i32⟩
  | 125 => ⟨S16384x8192, .i32⟩
  | 126 => ⟨S16384x8192, .i32⟩
  | 127 => ⟨S_, .i32⟩
  | _ => ⟨S16384x256, .f32⟩

abbrev hbmTy0_2 (i : Nat) : BufTy := match i % 128 with
  | 0 => ⟨S16384x8192, .i32⟩
  | 1 => ⟨S16384x8192, .i32⟩
  | 2 => ⟨S_, .i32⟩
  | 3 => ⟨S16384x8192, .i32⟩
  | 4 => ⟨S16384x8192, .i32⟩
  | 5 => ⟨S16384x8192, .i32⟩
  | 6 => ⟨S16384x8192, .i32⟩
  | 7 => ⟨S16384x8192, .i32⟩
  | 8 => ⟨S_, .i32⟩
  | 9 => ⟨S16384x8192, .i32⟩
  | 10 => ⟨S16384x8192, .i32⟩
  | 11 => ⟨S_, .i32⟩
  | 12 => ⟨S16384x8192, .i32⟩
  | 13 => ⟨S16384x8192, .i32⟩
  | 14 => ⟨S16384x8192, .i32⟩
  | 15 => ⟨S16384x8192, .i32⟩
  | 16 => ⟨S16384x8192, .i32⟩
  | 17 => ⟨S_, .i32⟩
  | 18 => ⟨S16384x8192, .i32⟩
  | 19 => ⟨S16384x8192, .i32⟩
  | 20 => ⟨S_, .i32⟩
  | 21 => ⟨S16384x8192, .i32⟩
  | 22 => ⟨S16384x8192, .i32⟩
  | 23 => ⟨S16384x8192, .i32⟩
  | 24 => ⟨S16384x8192, .i32⟩
  | 25 => ⟨S_, .i32⟩
  | 26 => ⟨S16384x8192, .i32⟩
  | 27 => ⟨S16384x8192, .i32⟩
  | 28 => ⟨S_, .i32⟩
  | 29 => ⟨S16384x8192, .i32⟩
  | 30 => ⟨S16384x8192, .i32⟩
  | 31 => ⟨S16384x8192, .i32⟩
  | 32 => ⟨S_, .i32⟩
  | 33 => ⟨S16384x8192, .i32⟩
  | 34 => ⟨S16384x8192, .i32⟩
  | 35 => ⟨S_, .i32⟩
  | 36 => ⟨S16384x8192, .i32⟩
  | 37 => ⟨S16384x8192, .i32⟩
  | 38 => ⟨S16384x8192, .f32⟩
  | 39 => ⟨S_, .f32⟩
  | 40 => ⟨S16384x8192, .f32⟩
  | 41 => ⟨S16384x8192, .f32⟩
  | 42 => ⟨S_, .f32⟩
  | 43 => ⟨S16384x8192, .f32⟩
  | 44 => ⟨S16384x8192, .f32⟩
  | 45 => ⟨S16384x8192, .f32⟩
  | 46 => ⟨S16384x8192, .f32⟩
  | 47 => ⟨S_, .f32⟩
  | 48 => ⟨S16384x8192, .f32⟩
  | 49 => ⟨S16384x8192, .f32⟩
  | 50 => ⟨S16384x8192, .f32⟩
  | 51 => ⟨S16384x8192, .f32⟩
  | 52 => ⟨S16384x8192, .f32⟩
  | 53 => ⟨S_, .f32⟩
  | 54 => ⟨S16384x8192, .f32⟩
  | 55 => ⟨S16384x8192, .f32⟩
  | 56 => ⟨S_, .f32⟩
  | 57 => ⟨S16384, .f32⟩
  | 58 => ⟨S_, .f32⟩
  | 59 => ⟨S16384, .f32⟩
  | 60 => ⟨S16384, .f32⟩
  | 61 => ⟨S16384x1, .f32⟩
  | 62 => ⟨S16384x8192, .f32⟩
  | 63 => ⟨S16384x8192, .f32⟩
  | 64 => ⟨S16384x8192, .f32⟩
  | 65 => ⟨S_, .f32⟩
  | 66 => ⟨S16384, .f32⟩
  | 67 => ⟨S16384x1, .f32⟩
  | 68 => ⟨S16384x8192, .f32⟩
  | 69 => ⟨S16384x8192, .f32⟩
  | 70 => ⟨S16384x256, .f32⟩
  | 71 => ⟨S_, .f32⟩
  | 72 => ⟨S8192, .f32⟩
  | 73 => ⟨S_, .f32⟩
  | 74 => ⟨S8192, .f32⟩
  | 75 => ⟨S8192, .f32⟩
  | 76 => ⟨S16384x8192, .f32⟩
  | 77 => ⟨S_, .f32⟩
  | 78 => ⟨S_, .f32⟩
  | 79 => ⟨S_, .f32⟩
  | 80 => ⟨S_, .f32⟩
  | 81 => ⟨S16384x256, .f32⟩
  | 82 => ⟨S16384x256, .f32⟩
  | 83 => ⟨S_, .f32⟩
  | 84 => ⟨S1, .f32⟩
  | 85 => ⟨S1, .f32⟩
  | 86 => ⟨S1x1, .f32⟩
  | 87 => ⟨S16384x256, .f32⟩
  | 88 => ⟨S16384x256, .f32⟩
  | 89 => ⟨S_, .f32⟩
  | 90 => ⟨S16384, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S8192, .f32⟩
  | 98 => ⟨S8192, .f32⟩
  | 99 => ⟨S8192, .f32⟩
  | 100 => ⟨S8192, .f32⟩
  | 101 => ⟨S_, .f32⟩
  | 102 => ⟨S_, .f32⟩
  | 103 => ⟨S_, .f32⟩
  | 104 => ⟨S_, .f32⟩
  | 105 => ⟨S1, .f32⟩
  | 106 => ⟨S1, .f32⟩
  | _ => ⟨S16384x256, .f32⟩

abbrev hbmTy (i : Nat) : BufTy := match i / 128 with
  | 0 => hbmTy0_0 i
  | 1 => hbmTy0_1 i
  | 2 => hbmTy0_2 i
  | _ => ⟨S16384x256, .f32⟩

abbrev bufTy : (tb : Table) → Fin (tcTables nBuf tb) → BufTy
  | .hbm, ⟨i, _⟩ => hbmTy i
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_call0_v0 : Ref sig .tc := ⟨.hbm, 4, rfl⟩
abbrev main_call0_v1 : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_call1_cst : Ref sig .tc := ⟨.hbm, 48, rfl⟩
abbrev main_call1_v0 : Ref sig .tc := ⟨.hbm, 49, rfl⟩
abbrev main_call1_cst_0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_v6 : Ref sig .tc := ⟨.hbm, 56, rfl⟩
abbrev main_call1_cst_1 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_call1_v10 : Ref sig .tc := ⟨.hbm, 61, rfl⟩
abbrev main_v34 : Ref sig .tc := ⟨.hbm, 62, rfl⟩
abbrev main_v35 : Ref sig .tc := ⟨.hbm, 63, rfl⟩
abbrev main_c : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_c_8 : Ref sig .tc := ⟨.hbm, 69, rfl⟩
abbrev main_v40 : Ref sig .tc := ⟨.hbm, 70, rfl⟩
abbrev main_c_9 : Ref sig .tc := ⟨.hbm, 71, rfl⟩
abbrev main_v41 : Ref sig .tc := ⟨.hbm, 72, rfl⟩
abbrev main_v42 : Ref sig .tc := ⟨.hbm, 73, rfl⟩
abbrev main_c_10 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_c_11 : Ref sig .tc := ⟨.hbm, 78, rfl⟩
abbrev main_v46 : Ref sig .tc := ⟨.hbm, 79, rfl⟩
abbrev main_v47 : Ref sig .tc := ⟨.hbm, 80, rfl⟩
abbrev main_c_12 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_c_13 : Ref sig .tc := ⟨.hbm, 87, rfl⟩
abbrev main_v53 : Ref sig .tc := ⟨.hbm, 88, rfl⟩
abbrev main_v54 : Ref sig .tc := ⟨.hbm, 89, rfl⟩
abbrev main_c_14 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_c_15 : Ref sig .tc := ⟨.hbm, 96, rfl⟩
abbrev main_v60 : Ref sig .tc := ⟨.hbm, 97, rfl⟩
abbrev main_v61 : Ref sig .tc := ⟨.hbm, 98, rfl⟩
abbrev main_c_16 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_c_17 : Ref sig .tc := ⟨.hbm, 105, rfl⟩
abbrev main_v67 : Ref sig .tc := ⟨.hbm, 106, rfl⟩
abbrev main_v68 : Ref sig .tc := ⟨.hbm, 107, rfl⟩
abbrev main_c_18 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_c_19 : Ref sig .tc := ⟨.hbm, 113, rfl⟩
abbrev main_v73 : Ref sig .tc := ⟨.hbm, 114, rfl⟩
abbrev main_v74 : Ref sig .tc := ⟨.hbm, 115, rfl⟩
abbrev main_c_20 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_c_21 : Ref sig .tc := ⟨.hbm, 120, rfl⟩
abbrev main_v78 : Ref sig .tc := ⟨.hbm, 121, rfl⟩
abbrev main_v79 : Ref sig .tc := ⟨.hbm, 122, rfl⟩
abbrev main_c_22 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_c_23 : Ref sig .tc := ⟨.hbm, 129, rfl⟩
abbrev main_v85 : Ref sig .tc := ⟨.hbm, 130, rfl⟩
abbrev main_v86 : Ref sig .tc := ⟨.hbm, 131, rfl⟩
abbrev main_c_24 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_c_25 : Ref sig .tc := ⟨.hbm, 138, rfl⟩
abbrev main_v92 : Ref sig .tc := ⟨.hbm, 139, rfl⟩
abbrev main_v93 : Ref sig .tc := ⟨.hbm, 140, rfl⟩
abbrev main_c_26 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_c_27 : Ref sig .tc := ⟨.hbm, 147, rfl⟩
abbrev main_v99 : Ref sig .tc := ⟨.hbm, 148, rfl⟩
abbrev main_v100 : Ref sig .tc := ⟨.hbm, 149, rfl⟩
abbrev main_c_28 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_c_29 : Ref sig .tc := ⟨.hbm, 155, rfl⟩
abbrev main_v105 : Ref sig .tc := ⟨.hbm, 156, rfl⟩
abbrev main_v106 : Ref sig .tc := ⟨.hbm, 157, rfl⟩
abbrev main_c_30 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_c_31 : Ref sig .tc := ⟨.hbm, 162, rfl⟩
abbrev main_v110 : Ref sig .tc := ⟨.hbm, 163, rfl⟩
abbrev main_v111 : Ref sig .tc := ⟨.hbm, 164, rfl⟩
abbrev main_c_32 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_c_33 : Ref sig .tc := ⟨.hbm, 171, rfl⟩
abbrev main_v117 : Ref sig .tc := ⟨.hbm, 172, rfl⟩
abbrev main_v118 : Ref sig .tc := ⟨.hbm, 173, rfl⟩
abbrev main_c_34 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_c_35 : Ref sig .tc := ⟨.hbm, 180, rfl⟩
abbrev main_v124 : Ref sig .tc := ⟨.hbm, 181, rfl⟩
abbrev main_v125 : Ref sig .tc := ⟨.hbm, 182, rfl⟩
abbrev main_c_36 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_c_37 : Ref sig .tc := ⟨.hbm, 189, rfl⟩
abbrev main_v131 : Ref sig .tc := ⟨.hbm, 190, rfl⟩
abbrev main_v132 : Ref sig .tc := ⟨.hbm, 191, rfl⟩
abbrev main_c_38 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_c_39 : Ref sig .tc := ⟨.hbm, 197, rfl⟩
abbrev main_v137 : Ref sig .tc := ⟨.hbm, 198, rfl⟩
abbrev main_v138 : Ref sig .tc := ⟨.hbm, 199, rfl⟩
abbrev main_c_40 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_c_41 : Ref sig .tc := ⟨.hbm, 204, rfl⟩
abbrev main_v142 : Ref sig .tc := ⟨.hbm, 205, rfl⟩
abbrev main_v143 : Ref sig .tc := ⟨.hbm, 206, rfl⟩
abbrev main_c_42 : Ref sig .tc := ⟨.hbm, 207, rfl⟩
abbrev main_v144 : Ref sig .tc := ⟨.hbm, 208, rfl⟩
abbrev main_v145 : Ref sig .tc := ⟨.hbm, 209, rfl⟩
abbrev main_v146 : Ref sig .tc := ⟨.hbm, 210, rfl⟩
abbrev main_v147 : Ref sig .tc := ⟨.hbm, 211, rfl⟩
abbrev main_v148 : Ref sig .tc := ⟨.hbm, 212, rfl⟩
abbrev main_c_43 : Ref sig .tc := ⟨.hbm, 213, rfl⟩
abbrev main_v149 : Ref sig .tc := ⟨.hbm, 214, rfl⟩
abbrev main_v150 : Ref sig .tc := ⟨.hbm, 215, rfl⟩
abbrev main_c_44 : Ref sig .tc := ⟨.hbm, 216, rfl⟩
abbrev main_v151 : Ref sig .tc := ⟨.hbm, 217, rfl⟩
abbrev main_v152 : Ref sig .tc := ⟨.hbm, 218, rfl⟩
abbrev main_v153 : Ref sig .tc := ⟨.hbm, 219, rfl⟩
abbrev main_v154 : Ref sig .tc := ⟨.hbm, 220, rfl⟩
abbrev main_v155 : Ref sig .tc := ⟨.hbm, 221, rfl⟩
abbrev main_c_45 : Ref sig .tc := ⟨.hbm, 222, rfl⟩
abbrev main_v156 : Ref sig .tc := ⟨.hbm, 223, rfl⟩
abbrev main_v157 : Ref sig .tc := ⟨.hbm, 224, rfl⟩
abbrev main_c_46 : Ref sig .tc := ⟨.hbm, 225, rfl⟩
abbrev main_v158 : Ref sig .tc := ⟨.hbm, 226, rfl⟩
abbrev main_v159 : Ref sig .tc := ⟨.hbm, 227, rfl⟩
abbrev main_v160 : Ref sig .tc := ⟨.hbm, 228, rfl⟩
abbrev main_v161 : Ref sig .tc := ⟨.hbm, 229, rfl⟩
abbrev main_v162 : Ref sig .tc := ⟨.hbm, 230, rfl⟩
abbrev main_c_47 : Ref sig .tc := ⟨.hbm, 231, rfl⟩
abbrev main_v163 : Ref sig .tc := ⟨.hbm, 232, rfl⟩
abbrev main_v164 : Ref sig .tc := ⟨.hbm, 233, rfl⟩
abbrev main_c_48 : Ref sig .tc := ⟨.hbm, 234, rfl⟩
abbrev main_v165 : Ref sig .tc := ⟨.hbm, 235, rfl⟩
abbrev main_v166 : Ref sig .tc := ⟨.hbm, 236, rfl⟩
abbrev main_v167 : Ref sig .tc := ⟨.hbm, 237, rfl⟩
abbrev main_v168 : Ref sig .tc := ⟨.hbm, 238, rfl⟩
abbrev main_c_49 : Ref sig .tc := ⟨.hbm, 239, rfl⟩
abbrev main_v169 : Ref sig .tc := ⟨.hbm, 240, rfl⟩
abbrev main_v170 : Ref sig .tc := ⟨.hbm, 241, rfl⟩
abbrev main_c_50 : Ref sig .tc := ⟨.hbm, 242, rfl⟩
abbrev main_v171 : Ref sig .tc := ⟨.hbm, 243, rfl⟩
abbrev main_v172 : Ref sig .tc := ⟨.hbm, 244, rfl⟩
abbrev main_v173 : Ref sig .tc := ⟨.hbm, 245, rfl⟩
abbrev main_c_51 : Ref sig .tc := ⟨.hbm, 246, rfl⟩
abbrev main_v174 : Ref sig .tc := ⟨.hbm, 247, rfl⟩
abbrev main_v175 : Ref sig .tc := ⟨.hbm, 248, rfl⟩
abbrev main_c_52 : Ref sig .tc := ⟨.hbm, 249, rfl⟩
abbrev main_v176 : Ref sig .tc := ⟨.hbm, 250, rfl⟩
abbrev main_v177 : Ref sig .tc := ⟨.hbm, 251, rfl⟩
abbrev main_v178 : Ref sig .tc := ⟨.hbm, 252, rfl⟩
abbrev main_v179 : Ref sig .tc := ⟨.hbm, 253, rfl⟩
abbrev main_v180 : Ref sig .tc := ⟨.hbm, 254, rfl⟩
abbrev main_c_53 : Ref sig .tc := ⟨.hbm, 255, rfl⟩
abbrev main_v181 : Ref sig .tc := ⟨.hbm, 256, rfl⟩
abbrev main_v182 : Ref sig .tc := ⟨.hbm, 257, rfl⟩
abbrev main_c_54 : Ref sig .tc := ⟨.hbm, 258, rfl⟩
abbrev main_v183 : Ref sig .tc := ⟨.hbm, 259, rfl⟩
abbrev main_v184 : Ref sig .tc := ⟨.hbm, 260, rfl⟩
abbrev main_v185 : Ref sig .tc := ⟨.hbm, 261, rfl⟩
abbrev main_v186 : Ref sig .tc := ⟨.hbm, 262, rfl⟩
abbrev main_v187 : Ref sig .tc := ⟨.hbm, 263, rfl⟩
abbrev main_c_55 : Ref sig .tc := ⟨.hbm, 264, rfl⟩
abbrev main_v188 : Ref sig .tc := ⟨.hbm, 265, rfl⟩
abbrev main_v189 : Ref sig .tc := ⟨.hbm, 266, rfl⟩
abbrev main_c_56 : Ref sig .tc := ⟨.hbm, 267, rfl⟩
abbrev main_v190 : Ref sig .tc := ⟨.hbm, 268, rfl⟩
abbrev main_v191 : Ref sig .tc := ⟨.hbm, 269, rfl⟩
abbrev main_v192 : Ref sig .tc := ⟨.hbm, 270, rfl⟩
abbrev main_v193 : Ref sig .tc := ⟨.hbm, 271, rfl⟩
abbrev main_v194 : Ref sig .tc := ⟨.hbm, 272, rfl⟩
abbrev main_c_57 : Ref sig .tc := ⟨.hbm, 273, rfl⟩
abbrev main_v195 : Ref sig .tc := ⟨.hbm, 274, rfl⟩
abbrev main_v196 : Ref sig .tc := ⟨.hbm, 275, rfl⟩
abbrev main_c_58 : Ref sig .tc := ⟨.hbm, 276, rfl⟩
abbrev main_v197 : Ref sig .tc := ⟨.hbm, 277, rfl⟩
abbrev main_v198 : Ref sig .tc := ⟨.hbm, 278, rfl⟩
abbrev main_v199 : Ref sig .tc := ⟨.hbm, 279, rfl⟩
abbrev main_v200 : Ref sig .tc := ⟨.hbm, 280, rfl⟩
abbrev main_c_59 : Ref sig .tc := ⟨.hbm, 281, rfl⟩
abbrev main_v201 : Ref sig .tc := ⟨.hbm, 282, rfl⟩
abbrev main_v202 : Ref sig .tc := ⟨.hbm, 283, rfl⟩
abbrev main_c_60 : Ref sig .tc := ⟨.hbm, 284, rfl⟩
abbrev main_v203 : Ref sig .tc := ⟨.hbm, 285, rfl⟩
abbrev main_v204 : Ref sig .tc := ⟨.hbm, 286, rfl⟩
abbrev main_v205 : Ref sig .tc := ⟨.hbm, 287, rfl⟩
abbrev main_c_61 : Ref sig .tc := ⟨.hbm, 288, rfl⟩
abbrev main_v206 : Ref sig .tc := ⟨.hbm, 289, rfl⟩
abbrev main_v207 : Ref sig .tc := ⟨.hbm, 290, rfl⟩
abbrev main_c_62 : Ref sig .tc := ⟨.hbm, 291, rfl⟩
abbrev main_v208 : Ref sig .tc := ⟨.hbm, 292, rfl⟩
abbrev main_v209 : Ref sig .tc := ⟨.hbm, 293, rfl⟩
abbrev main_v210 : Ref sig .tc := ⟨.hbm, 294, rfl⟩
abbrev main_cst_63 : Ref sig .tc := ⟨.hbm, 295, rfl⟩
abbrev main_v211 : Ref sig .tc := ⟨.hbm, 296, rfl⟩
abbrev main_v212 : Ref sig .tc := ⟨.hbm, 297, rfl⟩
abbrev main_cst_64 : Ref sig .tc := ⟨.hbm, 298, rfl⟩
abbrev main_v213 : Ref sig .tc := ⟨.hbm, 299, rfl⟩
abbrev main_v214 : Ref sig .tc := ⟨.hbm, 300, rfl⟩
abbrev main_v215 : Ref sig .tc := ⟨.hbm, 301, rfl⟩
abbrev main_v216 : Ref sig .tc := ⟨.hbm, 302, rfl⟩
abbrev main_cst_65 : Ref sig .tc := ⟨.hbm, 303, rfl⟩
abbrev main_v217 : Ref sig .tc := ⟨.hbm, 304, rfl⟩
abbrev main_v218 : Ref sig .tc := ⟨.hbm, 305, rfl⟩
abbrev main_v219 : Ref sig .tc := ⟨.hbm, 306, rfl⟩
abbrev main_v220 : Ref sig .tc := ⟨.hbm, 307, rfl⟩
abbrev main_v221 : Ref sig .tc := ⟨.hbm, 308, rfl⟩
abbrev main_cst_66 : Ref sig .tc := ⟨.hbm, 309, rfl⟩
abbrev main_v222 : Ref sig .tc := ⟨.hbm, 310, rfl⟩
abbrev main_v223 : Ref sig .tc := ⟨.hbm, 311, rfl⟩
abbrev main_cst_67 : Ref sig .tc := ⟨.hbm, 312, rfl⟩
abbrev main_v224 : Ref sig .tc := ⟨.hbm, 313, rfl⟩
abbrev main_cst_68 : Ref sig .tc := ⟨.hbm, 314, rfl⟩
abbrev main_v225 : Ref sig .tc := ⟨.hbm, 315, rfl⟩
abbrev main_v226 : Ref sig .tc := ⟨.hbm, 316, rfl⟩
abbrev main_v227 : Ref sig .tc := ⟨.hbm, 317, rfl⟩
abbrev main_v228 : Ref sig .tc := ⟨.hbm, 318, rfl⟩
abbrev main_v229 : Ref sig .tc := ⟨.hbm, 319, rfl⟩
abbrev main_v230 : Ref sig .tc := ⟨.hbm, 320, rfl⟩
abbrev main_cst_69 : Ref sig .tc := ⟨.hbm, 321, rfl⟩
abbrev main_v231 : Ref sig .tc := ⟨.hbm, 322, rfl⟩
abbrev main_v232 : Ref sig .tc := ⟨.hbm, 323, rfl⟩
abbrev main_v233 : Ref sig .tc := ⟨.hbm, 324, rfl⟩
abbrev main_v234 : Ref sig .tc := ⟨.hbm, 325, rfl⟩
abbrev main_v235 : Ref sig .tc := ⟨.hbm, 326, rfl⟩
abbrev main_cst_70 : Ref sig .tc := ⟨.hbm, 327, rfl⟩
abbrev main_v236 : Ref sig .tc := ⟨.hbm, 328, rfl⟩
abbrev main_cst_71 : Ref sig .tc := ⟨.hbm, 329, rfl⟩
abbrev main_v237 : Ref sig .tc := ⟨.hbm, 330, rfl⟩
abbrev main_v238 : Ref sig .tc := ⟨.hbm, 331, rfl⟩
abbrev main_v239 : Ref sig .tc := ⟨.hbm, 332, rfl⟩
abbrev main_cst_72 : Ref sig .tc := ⟨.hbm, 333, rfl⟩
abbrev main_v240 : Ref sig .tc := ⟨.hbm, 334, rfl⟩
abbrev main_cst_73 : Ref sig .tc := ⟨.hbm, 335, rfl⟩
abbrev main_v241 : Ref sig .tc := ⟨.hbm, 336, rfl⟩
abbrev main_v242 : Ref sig .tc := ⟨.hbm, 337, rfl⟩
abbrev main_v243 : Ref sig .tc := ⟨.hbm, 338, rfl⟩
abbrev main_cst_74 : Ref sig .tc := ⟨.hbm, 339, rfl⟩
abbrev main_v244 : Ref sig .tc := ⟨.hbm, 340, rfl⟩
abbrev main_v245 : Ref sig .tc := ⟨.hbm, 341, rfl⟩
abbrev main_v246 : Ref sig .tc := ⟨.hbm, 342, rfl⟩
abbrev main_v247 : Ref sig .tc := ⟨.hbm, 343, rfl⟩
abbrev main_v248 : Ref sig .tc := ⟨.hbm, 344, rfl⟩
abbrev main_cst_75 : Ref sig .tc := ⟨.hbm, 345, rfl⟩
abbrev main_v249 : Ref sig .tc := ⟨.hbm, 346, rfl⟩
abbrev main_cst_76 : Ref sig .tc := ⟨.hbm, 347, rfl⟩
abbrev main_v250 : Ref sig .tc := ⟨.hbm, 348, rfl⟩
abbrev main_cst_77 : Ref sig .tc := ⟨.hbm, 349, rfl⟩
abbrev main_v251 : Ref sig .tc := ⟨.hbm, 350, rfl⟩
abbrev main_v252 : Ref sig .tc := ⟨.hbm, 351, rfl⟩
abbrev main_cst_78 : Ref sig .tc := ⟨.hbm, 352, rfl⟩
abbrev main_v253 : Ref sig .tc := ⟨.hbm, 353, rfl⟩
abbrev main_v254 : Ref sig .tc := ⟨.hbm, 354, rfl⟩
abbrev main_v255 : Ref sig .tc := ⟨.hbm, 355, rfl⟩
abbrev main_v256 : Ref sig .tc := ⟨.hbm, 356, rfl⟩
abbrev main_cst_79 : Ref sig .tc := ⟨.hbm, 357, rfl⟩
abbrev main_v257 : Ref sig .tc := ⟨.hbm, 358, rfl⟩
abbrev main_v258 : Ref sig .tc := ⟨.hbm, 359, rfl⟩
abbrev main_v259 : Ref sig .tc := ⟨.hbm, 360, rfl⟩
abbrev main_v260 : Ref sig .tc := ⟨.hbm, 361, rfl⟩
abbrev main_v261 : Ref sig .tc := ⟨.hbm, 362, rfl⟩

abbrev nD : Nat := 1
abbrev τ : Topo := Topo.v7x

variable {F : FTy → Type} [FloatOps F]
-- ==== Proof.Maths.Soft.lean ====
/-
  The real functions both programs compute, and the extended-real operations on real operands: sums, quotients,
  exponentials, logarithms and row maxima of reals are reals, and a softmax does not depend on what is subtracted
  from its row before exponentiating.
-/
module

public import Idealize.ShloMosaic.PureOps.Ideal
public import Idealize.ShloMosaic.PureOps.IdealRules
public import Idealize.ShloMosaic.PureOps.Ideal.Laws

@[expose] public section

noncomputable section

namespace Cert.Vq

open Idealize.ShloMosaic

/-- The logit of a code `c` for a row `z`: minus half the precision times their squared distance, expanded. -/
def logit (q : ℝ) (z c : Fin 256 → ℝ) : ℝ :=
  -(1 / 2 * q) * (((∑ d, z d * z d) + ∑ d, c d * c d) - 2 * ∑ d, z d * c d)

/-- The softmax of a row. -/
def soft {ι : Type} [Fintype ι] (l : ι → ℝ) (k : ι) : ℝ := Real.exp (l k) / ∑ j, Real.exp (l j)

/-- The logarithm of the softmax of a row. -/
def lsoft {ι : Type} [Fintype ι] (l : ι → ℝ) (k : ι) : ℝ := l k - Real.log (∑ j, Real.exp (l j))

/-! ## Extended-real operations on reals -/

/-- A sum of reals, taken among the extended reals, is the real sum. -/
theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The quotient of two reals, the divisor not zero. -/
theorem div_coe (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

/-- The exponential of a real. -/
theorem exp_coe (x : ℝ) : Ideal.exp (x : EReal) = ((Real.exp x : ℝ) : EReal) := rfl

/-- The logarithm of a positive real. -/
theorem log_coe (x : ℝ) (hx : 0 < x) : Ideal.log (x : EReal) = ((Real.log x : ℝ) : EReal) := by
  show (if x ≤ 0 then (⊥ : EReal) else ((Real.log x : ℝ) : EReal)) = _
  rw [if_neg (not_le.mpr hx)]

/-- The larger of two reals. -/
theorem max_coe (x y : ℝ) : max (x : EReal) (y : EReal) = ((max x y : ℝ) : EReal) :=
  (EReal.coe_strictMono.monotone.map_max).symm

/-- The maximum of a nonempty family of reals, taken from minus infinity, is a real. -/
theorem exists_fold_max {ι : Type} [Fintype ι] [Nonempty ι] (f : ι → ℝ) :
    ∃ M : ℝ, (Finset.univ : Finset ι).fold max (⊥ : EReal) (fun i => ((f i : ℝ) : EReal)) = (M : EReal) := by
  classical
  have key : ∀ s : Finset ι, s.Nonempty → ∃ M : ℝ, s.fold max (⊥ : EReal) (fun i => ((f i : ℝ) : EReal)) = (M : EReal) := by
    intro s hs
    induction hs using Finset.Nonempty.cons_induction with
    | singleton a => exact ⟨f a, by rw [Finset.fold_singleton]; exact max_eq_left bot_le⟩
    | cons a s h hs ih =>
      obtain ⟨M, hM⟩ := ih
      exact ⟨max (f a) M, by rw [Finset.fold_cons, hM, max_coe]⟩
  exact key _ Finset.univ_nonempty

/-! ## Softmax of a row -/

section
variable {ι : Type} [Fintype ι] [Nonempty ι] (l : ι → ℝ)

/-- A sum of exponentials is positive. -/
theorem sum_exp_pos : 0 < ∑ j, Real.exp (l j) :=
  Finset.sum_pos (fun j _ => Real.exp_pos _) Finset.univ_nonempty

/-- Subtracting a constant from the row divides the sum of exponentials by its exponential. -/
theorem sum_exp_sub (M : ℝ) : ∑ j, Real.exp (l j - M) = (∑ j, Real.exp (l j)) / Real.exp M := by
  rw [Finset.sum_div]
  exact Finset.sum_congr rfl fun j _ => Real.exp_sub _ _

/-- The softmax of a row lowered by a constant is the softmax of the row. -/
theorem soft_sub (M : ℝ) (k : ι) : Real.exp (l k - M) / ∑ j, Real.exp (l j - M) = soft l k := by
  have h := sum_exp_pos l
  rw [sum_exp_sub, Real.exp_sub, soft]
  have hM := Real.exp_pos M
  field_simp

/-- So is its logarithm. -/
theorem lsoft_sub (M : ℝ) (k : ι) : (l k - M) - Real.log (∑ j, Real.exp (l j - M)) = lsoft l k := by
  have h := sum_exp_pos l
  rw [sum_exp_sub, Real.log_div h.ne' (Real.exp_pos M).ne', Real.log_exp, lsoft]
  ring

/-- A softmax sums to one. -/
theorem sum_soft : ∑ k, soft l k = 1 := by
  unfold soft
  rw [← Finset.sum_div, div_self (sum_exp_pos l).ne']

/-- A softmax is not negative. -/
theorem soft_nonneg (k : ι) : 0 ≤ soft l k := div_nonneg (Real.exp_pos _).le (sum_exp_pos l).le

/-- The softmax as a quotient among the extended reals. -/
theorem soft_div (M : ℝ) (k : ι) :
    Ideal.div (Ideal.exp (((l k - M : ℝ) : EReal))) (∑ j, Ideal.exp (((l j - M : ℝ) : EReal))) = ((soft l k : ℝ) : EReal) := by
  simp only [exp_coe, coe_sum]
  rw [div_coe _ _ (sum_exp_pos fun j => l j - M).ne', soft_sub]

/-- The softmax as a product with the reciprocal of the sum. -/
theorem soft_mul (M : ℝ) (k : ι) :
    Ideal.exp (((l k - M : ℝ) : EReal)) * Ideal.div 1 (∑ j, Ideal.exp (((l j - M : ℝ) : EReal))) = ((soft l k : ℝ) : EReal) := by
  simp only [exp_coe, coe_sum]
  rw [← EReal.coe_one, div_coe _ _ (sum_exp_pos fun j => l j - M).ne', ← EReal.coe_mul, mul_one_div, soft_sub]

/-- The softmax's logarithm, as the difference of the lowered row and the logarithm of its sum of exponentials. -/
theorem lsoft_log (M : ℝ) (k : ι) :
    ((l k - M : ℝ) : EReal) - Ideal.log (∑ j, Ideal.exp (((l j - M : ℝ) : EReal))) = ((lsoft l k : ℝ) : EReal) := by
  simp only [exp_coe, coe_sum]
  rw [log_coe _ (sum_exp_pos fun j => l j - M), ← EReal.coe_sub, lsoft_sub]

/-- Averaging the lowered row under its softmax and taking off the logarithm of the sum averages the softmax's logarithm. -/
theorem mean_sub (M : ℝ) :
    (∑ k, soft l k * (l k - M)) - Real.log (∑ j, Real.exp (l j - M)) = ∑ k, soft l k * lsoft l k := by
  have h : ∀ k, soft l k * lsoft l k = soft l k * (l k - M) - soft l k * Real.log (∑ j, Real.exp (l j - M)) := fun k => by
    rw [← lsoft_sub l M k]; ring
  simp only [h, Finset.sum_sub_distrib, ← Finset.sum_mul, sum_soft, one_mul]

end

end Cert.Vq
-- ==== Proof.Maths.Consts.lean ====
/-
  The float constants of both programs as the reals they denote, and the uniform draw: the word with a fixed exponent
  and the top 23 bits of a cipher word for its fraction denotes a number from 1 up to but not including 2.
-/
module

public import Idealize.ShloMosaic.PureOps.Ideal
public import Idealize.ShloMosaic.PureOps.IdealRules
public import Idealize.ShloMosaic.PureOps.Ideal.Laws
public import Idealize.ShloMosaic.Lib.IdealHost
public import proofs.«01_k».proof.Proof.Maths.Soft

@[expose] public section

noncomputable section

namespace Cert.Vq

open Idealize.ShloMosaic

/-- The smallest precision parameter and the offset inside the logarithms of the noise, about 1e-10. -/
def tiny : ℝ := 14411519 * 2 ^ (-57 : ℤ)

/-- The offset inside the logarithm of the perplexity, about 1e-7. -/
def small : ℝ := 14073749 * 2 ^ (-47 : ℤ)

/-- The offset of the noise is positive. -/
theorem tiny_pos : 0 < tiny := by unfold tiny; positivity

/-- The offset of the perplexity is positive. -/
theorem small_pos : 0 < small := by unfold small; positivity

/-- The offset of the noise is below the spacing of the draws. -/
theorem tiny_lt : tiny < 2 ^ (-23 : ℤ) := by unfold tiny; norm_num

/-- The word of the offset of the noise. -/
theorem word_tiny : Ideal.ofBits .f32 0x2EDBE6FF#32 = ((tiny : ℝ) : EReal) := by
  simp [Ideal.ofBits, Ideal.ieee, tiny, -EReal.coe_mul]

/-- The word of the offset of the perplexity. -/
theorem word_small : Ideal.ofBits .f32 0x33D6BF95#32 = ((small : ℝ) : EReal) := by
  simp [Ideal.ofBits, Ideal.ieee, small, -EReal.coe_mul]

/-- The word of the number of rows. -/
theorem word_rows : Ideal.ofBits .f32 0x46800000#32 = ((16384 : ℝ) : EReal) := by
  simp [Ideal.ofBits, Ideal.ieee, -EReal.coe_mul]; norm_num

/-- The word of one half. -/
theorem word_half : Ideal.ofBits .f32 0x3F000000#32 = ((1 / 2 : ℝ) : EReal) := by
  simp [Ideal.ofBits, Ideal.ieee, -EReal.coe_mul]; norm_num

/-- The word of two. -/
theorem word_two : Ideal.ofBits .f32 0x40000000#32 = ((2 : ℝ) : EReal) := by
  simp [Ideal.ofBits, Ideal.ieee, -EReal.coe_mul]; norm_num

/-- The word of one. -/
theorem word_one : Ideal.ofBits .f32 0x3F800000#32 = ((1 : ℝ) : EReal) := by
  simp [Ideal.ofBits, Ideal.ieee, -EReal.coe_mul]; norm_num

/-- The word of minus infinity. -/
theorem word_neg_inf : Ideal.ofBits .f32 0xFF800000#32 = (⊥ : EReal) := by
  simp [Ideal.ofBits, Ideal.ieee]

/-- The word of infinity. -/
theorem word_inf : Ideal.ofBits .f32 0x7F800000#32 = (⊤ : EReal) := by
  simp [Ideal.ofBits, Ideal.ieee]

/-- The word of a draw from a cipher word: its top 23 bits under the exponent of one. -/
def drawWord (x : BitVec 32) : BitVec 32 := (x >>> 9) ||| 0x3F800000#32

/-- The uniform draw of a cipher word, between 0 and 1. -/
def draw (x : BitVec 32) : ℝ := (x >>> 9).toNat * 2 ^ (-23 : ℤ)

/-- A draw is not negative. -/
theorem draw_nonneg (x : BitVec 32) : 0 ≤ draw x := by unfold draw; positivity

/-- A draw is at most one less one step. -/
theorem draw_le (x : BitVec 32) : draw x ≤ 1 - 2 ^ (-23 : ℤ) := by
  have h : (x >>> 9).toNat ≤ 2 ^ 23 - 1 := by
    rw [BitVec.toNat_ushiftRight, Nat.shiftRight_eq_div_pow]
    have := x.isLt
    omega
  have h' : ((x >>> 9).toNat : ℝ) ≤ 2 ^ 23 - 1 := by
    have : ((x >>> 9).toNat : ℝ) ≤ ((2 ^ 23 - 1 : ℕ) : ℝ) := by exact_mod_cast h
    refine this.trans (le_of_eq ?_)
    norm_num
  unfold draw
  calc ((x >>> 9).toNat : ℝ) * 2 ^ (-23 : ℤ) ≤ (2 ^ 23 - 1) * 2 ^ (-23 : ℤ) :=
        mul_le_mul_of_nonneg_right h' (by positivity)
    _ = 1 - 2 ^ (-23 : ℤ) := by norm_num

/-- The fields of a draw's word: sign clear, exponent 127, fraction the top bits of the cipher word. -/
theorem draw_fields (x : BitVec 32) :
    (drawWord x).extractLsb' 31 1 = 0#1 ∧ (drawWord x).extractLsb' 23 8 = 127#8
      ∧ (drawWord x).extractLsb' 0 23 = (x >>> 9).extractLsb' 0 23 ∧ (x >>> 9).extractLsb' 23 9 = 0#9 := by
  unfold drawWord
  refine ⟨?_, ?_, ?_, ?_⟩ <;>
  · apply BitVec.eq_of_getLsbD_eq
    intro i hi
    interval_cases i <;> simp

/-- What a draw's word denotes. -/
theorem word_draw (x : BitVec 32) : Ideal.ofBits .f32 (drawWord x) = ((1 + draw x : ℝ) : EReal) := by
  obtain ⟨h1, h2, h3, h4⟩ := draw_fields x
  have hfr : ((x >>> 9).extractLsb' 0 23).toNat = (x >>> 9).toNat := by
    rw [BitVec.extractLsb'_toNat, Nat.shiftRight_zero, BitVec.toNat_ushiftRight, Nat.shiftRight_eq_div_pow]
    have := x.isLt
    omega
  show Ideal.ieee 8 23 (drawWord x) = _
  unfold Ideal.ieee
  dsimp only
  rw [show (8 + 23 : ℕ) = 31 from rfl, h1, h2, h3, hfr]
  rw [if_neg (by decide), if_neg (by decide)]
  congr 1
  unfold draw
  rw [if_neg (by decide)]
  have e : ((2 ^ 23 + (x >>> 9).toNat : ℕ) : ℝ) = 2 ^ 23 + ((x >>> 9).toNat : ℝ) := by push_cast; norm_num
  rw [e]
  norm_num
  ring

/-- The noise of a cipher word: minus the logarithm of minus the logarithm of its draw, both offset. -/
def noise (x : BitVec 32) : ℝ := -Real.log (tiny - Real.log (draw x + tiny))

/-- The argument of the inner logarithm is positive. -/
theorem draw_add_pos (x : BitVec 32) : 0 < draw x + tiny := add_pos_of_nonneg_of_pos (draw_nonneg x) tiny_pos

/-- The inner logarithm of the noise is negative. -/
theorem log_draw_neg (x : BitVec 32) : Real.log (draw x + tiny) < 0 :=
  Real.log_neg (draw_add_pos x) (by have := draw_le x; have := tiny_lt; linarith)

/-- The argument of the outer logarithm is positive. -/
theorem noise_arg_pos (x : BitVec 32) : 0 < tiny - Real.log (draw x + tiny) := by
  have := log_draw_neg x
  have := tiny_pos
  linarith

/-- The noise as the kernel takes it off a logit. -/
theorem noise_kernel (x : BitVec 32) :
    Ideal.log (((tiny : ℝ) : EReal) - Ideal.log (Ideal.ofBits .f32 (drawWord x) - 1 + ((tiny : ℝ) : EReal))) = ((-noise x : ℝ) : EReal) := by
  have e : (1 : EReal) = ((1 : ℝ) : EReal) := rfl
  rw [word_draw, e, ← EReal.coe_sub, ← EReal.coe_add, show (1 + draw x - 1 + tiny : ℝ) = draw x + tiny by ring,
    log_coe _ (draw_add_pos x), ← EReal.coe_sub, log_coe _ (noise_arg_pos x), noise, neg_neg]

/-- The noise as the reference adds it to a logit. -/
theorem noise_reference (x : BitVec 32) :
    -Ideal.log (-Ideal.log (Ideal.ofBits .f32 (drawWord x) - 1 + ((tiny : ℝ) : EReal)) + ((tiny : ℝ) : EReal)) = ((noise x : ℝ) : EReal) := by
  have e : (1 : EReal) = ((1 : ℝ) : EReal) := rfl
  rw [word_draw, e, ← EReal.coe_sub, ← EReal.coe_add, show (1 + draw x - 1 + tiny : ℝ) = draw x + tiny by ring,
    log_coe _ (draw_add_pos x), ← EReal.coe_neg, ← EReal.coe_add, show (-Real.log (draw x + tiny) + tiny : ℝ) = tiny - Real.log (draw x + tiny) by ring,
    log_coe _ (noise_arg_pos x), ← EReal.coe_neg, noise]

end Cert.Vq
-- ==== Proof.Maths.Bits.lean ====
/-
  A conjunction of bits over an array, and what one comparison bit of an extended real says.
-/
module

public import proofs.«01_k».proof.Proof.Maths.Consts

@[expose] public section

noncomputable section

namespace Cert.Vq

open Idealize.ShloMosaic

/-- A conjunction of two bits is one only if both are. -/
theorem and_one : ∀ a b : BitVec 1, IntOp.andi a b = 1#1 → a = 1#1 ∧ b = 1#1 := by decide

/-- A fold by conjunction is one only if its start and every bit folded are. -/
theorem fold_and {α : Type} (f : α → BitVec 1) (l : List α) (b : BitVec 1) (h : l.foldl (fun r n => IntOp.andi r (f n)) b = 1#1) :
    b = 1#1 ∧ ∀ n ∈ l, f n = 1#1 := by
  induction l generalizing b with
  | nil => exact ⟨h, fun n hn => absurd hn List.not_mem_nil⟩
  | cons a l ih =>
    obtain ⟨h1, h2⟩ := ih _ h
    obtain ⟨h3, h4⟩ := and_one _ _ h1
    refine ⟨h3, fun n hn => ?_⟩
    rcases List.mem_cons.mp hn with e | e
    · exact e ▸ h4
    · exact h2 n e

/-- A reduction by conjunction is one only if every bit it takes is. -/
theorem reduce_and {s t u : Shape} {axes : List (Fin s.rank)} (x : s.Idx → BitVec 1) (v : u.Idx → BitVec 1) (h : s.ReducesTo axes t)
    (hu : 0 < u.numel) (j : t.Idx) (hj : Host.reduce IntOp.andi x v h hu j = 1#1) (i : s.Idx) (hi : h.drop i = j) : x i = 1#1 := by
  have hf := (fold_and _ _ _ hj).2 (s.rowMajor i) (by simp [hi])
  simpa using hf

/-- An extended real whose absolute value compares below infinity is a real. -/
theorem exists_real (x : Ideal .f32) (h : FloatOps.cmpf .olt (FloatOps.hostAbsf x) (FloatOps.ofBits (F := Ideal) .f32 0x7F800000#32) = 1#1) :
    ∃ r : ℝ, x = ((r : ℝ) : EReal) := by
  have h' : Ideal.cmp .olt (max (x : EReal) (-(x : EReal))) (Ideal.ofBits .f32 0x7F800000#32) = 1#1 := h
  rw [word_inf] at h'
  induction x using EReal.rec with
  | bot => simp [Ideal.cmp] at h'
  | coe r => exact ⟨r, rfl⟩
  | top => simp [Ideal.cmp] at h'

/-- The precision of any parameter is a real: the parameter is first kept away from zero. -/
theorem exists_precision (x : EReal) : ∃ q : ℝ, Ideal.div (1 : EReal) (max ((tiny : ℝ) : EReal) x) = ((q : ℝ) : EReal) := by
  induction x with
  | bot => exact ⟨1 / tiny, by rw [max_bot_right, ← EReal.coe_one]; exact div_coe _ _ tiny_pos.ne'⟩
  | coe a => exact ⟨1 / max tiny a, by rw [max_coe, ← EReal.coe_one]; exact div_coe _ _ (lt_max_of_lt_left tiny_pos).ne'⟩
  | top => exact ⟨0, by rw [max_top_right]; simp [Ideal.div]⟩

end Cert.Vq

end
-- ==== Proof.Finite.lean ====
/-
  The precondition: its side conditions, and what it says of the arguments' entries.
-/
module

public import proofs.«01_k».proof.Pre_finite
public import proofs.«01_k».proof.Proof.Maths.Bits

@[expose] public section

noncomputable section

namespace Cert.Pre_finite

open Cert.Vq Idealize.ShloMosaic

/-- The side conditions of the precondition's operations. -/
theorem facts : Facts where
  bcast_S_S16384x256 := by decide
  reducesTo_S16384x256_S_d0_1 := by decide
  h_S_ := by decide
  bcast_S_S8192x256 := by decide
  reducesTo_S8192x256_S_d0_1 := by decide

/-- There is one index of a scalar. -/
theorem scalar_idx (i j : S_.Idx) : i = j := funext fun a => a.elim0

/-- Under the precondition every entry of the first and of the third argument is a real. -/
theorem reals [Facts] (x0 : FVec Ideal S16384x256 .f32) (x1 : FVec Ideal S1 .f32) (x2 : FVec Ideal S8192x256 .f32)
    (h : fn x0 x1 x2 = fun _ => 1#1) :
    (∀ i, ∃ r : ℝ, x0 i = ((r : ℝ) : EReal)) ∧ ∀ i, ∃ r : ℝ, x2 i = ((r : ℝ) : EReal) := by
  obtain ⟨h0, h2⟩ := and_one _ _ (congrFun h (fun a => a.elim0))
  exact ⟨fun i => exists_real _ (reduce_and _ _ _ _ _ h0 i (scalar_idx _ _)), fun i => exists_real _ (reduce_and _ _ _ _ _ h2 i (scalar_idx _ _))⟩

end Cert.Pre_finite

end
-- ==== Proof.Kernel.Body.lean ====
/-
  What one grid point's body leaves behind, as plain terms of what it reads.

  The body reads the precision, a block of 128 encoder rows, the codebook (both layouts) and what the point before left
  in the six scratch buffers.  This module reads the stored pieces back: case A is the first grid point (the scratch is
  filled there), case B a middle point, case C the last point (the two scalar results are stored there).
-/
module

public import proofs.«01_k».proof.Proof.Gen.KernelIdeal.Value
public import Idealize.ShloMosaic.Lib.Pipeline.Value
public import Idealize.ShloMosaic.Lib.ValueIdx
public import Idealize.ShloMosaic.Lib.Pipeline.ValueKit.Tiles
public import Idealize.ShloMosaic.Lib.Tactic

@[expose] public section

set_option maxRecDepth 16384

noncomputable section

open Idealize.ShloMosaic Idealize.ShloMosaic.TcCoe Idealize.SL.Sem Idealize.ShloMosaic.ValueIdx

namespace Cert.KernelIdeal.Body

open Cert.KernelIdeal Cert.KernelIdeal.Gen

variable {F : FTy → Type} [FloatOps F]

/-- The random words of a block of rows, before the last key addition: from the block's number and the index base. -/
def words (n : BitVec 32) (lo : Vec F S128x8192 .i32) : IVec S128x8192 32 × IVec S128x8192 32 :=
  let a := k0_pay22 n lo; let b := k0_pay23 n lo; let d := k0_pay24 n lo
  let e := k0_pay35 a b d; let f := k0_pay36 a b d
  let g := k0_pay47 e f; let h := k0_pay48 e f
  (k0_pay58 g h, k0_pay59 g h)

/-- The block of quantized rows a point stores. -/
def zqBlock (n : BitVec 32) (p : F .f32) (z : Vec F S128x256 .f32) (csq : Vec F S1x8192 .f32)
    (lo : Vec F S128x8192 .i32) (cbt : Vec F S256x8192 .bf16) (cb : Vec F S8192x256 .bf16) : Vec F S128x256 .f32 :=
  k0_pay60 (k0_pay10 p z cbt csq) (words n lo).1 (words n lo).2 466689008#32 cb

/-- The running column sums after a point, from those before it. -/
def avgStep (p : F .f32) (z : Vec F S128x256 .f32) (csq : Vec F S1x8192 .f32) (cbt : Vec F S256x8192 .bf16)
    (avg : Vec F S1x8192 .f32) : Vec F S1x8192 .f32 :=
  k0_pay15 p z cbt csq avg

/-- The running sum of the discrete part of the loss after a point. -/
def discStep (p : F .f32) (z : Vec F S128x256 .f32) (csq : Vec F S1x8192 .f32) (cbt : Vec F S256x8192 .bf16)
    (a : F .f32) : F .f32 :=
  k0_pay17 (k0_pay11 p z cbt csq) (k0_pay13 p z cbt csq) (k0_pay14 p z cbt csq) a

/-- The running sum of the squared distances after a point. -/
def contStep (n : BitVec 32) (p : F .f32) (z : Vec F S128x256 .f32) (csq : Vec F S1x8192 .f32)
    (lo : Vec F S128x8192 .i32) (cbt : Vec F S256x8192 .bf16) (cb : Vec F S8192x256 .bf16) (a : F .f32) : F .f32 :=
  k0_pay1 a (k0_pay61 z (k0_pay10 p z cbt csq) (words n lo).1 (words n lo).2 466689008#32 cb)

/-- The two zero offsets of a whole matrix. -/
theorem hz : (![0, 0] : Fin 2 → Nat) = fun _ => 0 := funext fun a => by fin_cases a <;> rfl

/-- A one-word buffer read at its only place. -/
theorem ld_one (x : Vec F S1 .f32) (inb) (j : (Rect.unit (s := S1) ![0] S1.size inb).shape.Idx) :
    View.ld x (Rect.unit (s := S1) ![0] S1.size inb) j = x (ix1 0) :=
  View.ld_unit_apply_of _ _ _ _ _ _ fun a => by
    have h : (j a).val < 1 := by have := (j a).isLt; fin_cases a; exact this
    have h0 : (j a).val = 0 := by omega
    rw [h0]; fin_cases a; rfl

/-- A one-word buffer read at its only place. -/
theorem ld_one' (x : Vec F S1 .f32) (inb) (j : (Rect.unit (s := S1) ![0] ![1] inb).shape.Idx) :
    View.ld x (Rect.unit (s := S1) ![0] ![1] inb) j = x (ix1 0) :=
  View.ld_unit_apply_of _ _ _ _ _ _ fun a => by
    have h : (j a).val < 1 := by have := (j a).isLt; fin_cases a; exact this
    have h0 : (j a).val = 0 := by omega
    rw [h0]; fin_cases a; rfl

/-- A two-word buffer read at its first word. -/
theorem ld_fst (x : Vec F S2 .f32) (inb) (j : (Rect.unit (s := S2) ![0] S1.size inb).shape.Idx) :
    View.ld x (Rect.unit (s := S2) ![0] S1.size inb) j = x (ix1 0) :=
  View.ld_unit_apply_of _ _ _ _ _ _ fun a => by
    have h : (j a).val < 1 := by have := (j a).isLt; fin_cases a; exact this
    have h0 : (j a).val = 0 := by omega
    rw [h0]; fin_cases a; rfl

/-- A two-word buffer read at its first word. -/
theorem ld_fst' (x : Vec F S2 .f32) (inb) (j : (Rect.unit (s := S2) ![0] ![1] inb).shape.Idx) :
    View.ld x (Rect.unit (s := S2) ![0] ![1] inb) j = x (ix1 0) :=
  View.ld_unit_apply_of _ _ _ _ _ _ fun a => by
    have h : (j a).val < 1 := by have := (j a).isLt; fin_cases a; exact this
    have h0 : (j a).val = 0 := by omega
    rw [h0]; fin_cases a; rfl

/-- A two-word buffer read at its second word. -/
theorem ld_snd (x : Vec F S2 .f32) (inb) (j : (Rect.unit (s := S2) ![1] S1.size inb).shape.Idx) :
    View.ld x (Rect.unit (s := S2) ![1] S1.size inb) j = x (ix1 1) :=
  View.ld_unit_apply_of _ _ _ _ _ _ fun a => by
    have h : (j a).val < 1 := by have := (j a).isLt; fin_cases a; exact this
    have h0 : (j a).val = 0 := by omega
    rw [h0]; fin_cases a; rfl

/-- A two-word buffer read at its second word. -/
theorem ld_snd' (x : Vec F S2 .f32) (inb) (j : (Rect.unit (s := S2) ![1] ![1] inb).shape.Idx) :
    View.ld x (Rect.unit (s := S2) ![1] ![1] inb) j = x (ix1 1) :=
  View.ld_unit_apply_of _ _ _ _ _ _ fun a => by
    have h : (j a).val < 1 := by have := (j a).isLt; fin_cases a; exact this
    have h0 : (j a).val = 0 := by omega
    rw [h0]; fin_cases a; rfl

/-- Two words as the contents of the two-word buffer. -/
def pair (a b : F .f32) : Vec F S2 .f32 := fun j => if (j 0).val = 0 then a else b

/-- The first word's place. -/
theorem mem_fst (inb) (y : S2.Idx) : y ∈ (Rect.unit (s := S2) ![0] ![1] inb).set ↔ (y 0).val = 0 := by
  rw [Rect.mem_set_unit]
  constructor
  · intro h
    have h2 : (y 0).val < 0 + 1 := (h 0).2
    omega
  · intro h a
    fin_cases a
    show 0 ≤ (y 0).val ∧ (y 0).val < 0 + 1
    omega

/-- The second word's place. -/
theorem mem_snd (inb) (y : S2.Idx) : y ∈ (Rect.unit (s := S2) ![1] ![1] inb).set ↔ ¬ (y 0).val = 0 := by
  rw [Rect.mem_set_unit]
  constructor
  · intro h
    have h2 : 1 ≤ (y 0).val := (h 0).1
    omega
  · intro h a
    have h2 : (y 0).val < 2 := (y 0).isLt
    fin_cases a
    show 1 ≤ (y 0).val ∧ (y 0).val < 1 + 1
    omega

/-- Both words stored, the second one last. -/
theorem canon_snd_fst (inb) (inb') (a b : F .f32) (L : List (View.Piece (Elt F) S2 .f32)) :
    View.canon (Val := Elt F) (e := .f32) (⟨Rect.unit (s := S2) ![1] ![1] inb, fun _ => b⟩ :: ⟨Rect.unit (s := S2) ![0] ![1] inb', fun _ => a⟩ :: L)
      = pair a b := by
  funext y
  unfold pair
  by_cases h : (y 0).val = 0
  · rw [if_pos h]
    have hm : y ∉ (Rect.unit (s := S2) ![1] ![1] inb).set := fun hm => (mem_snd inb y).mp hm h
    refine (View.canon_cons_of_not_mem (Val := Elt F) (e := .f32) ⟨Rect.unit (s := S2) ![1] ![1] inb, fun _ => b⟩ _ hm).trans ?_
    obtain ⟨x, rfl⟩ := (Rect.unit (s := S2) ![0] ![1] inb').exists_idx_of_mem ((mem_fst inb' y).mpr h)
    exact View.canon_cons_emb (Rect.unit (s := S2) ![0] ![1] inb') _ L x
  · rw [if_neg h]
    obtain ⟨x, rfl⟩ := (Rect.unit (s := S2) ![1] ![1] inb).exists_idx_of_mem ((mem_snd inb y).mpr h)
    exact View.canon_cons_emb (Rect.unit (s := S2) ![1] ![1] inb) _ _ x

/-- Both words stored, the first one last. -/
theorem canon_fst_snd (inb) (inb') (a b : F .f32) (L : List (View.Piece (Elt F) S2 .f32)) :
    View.canon (Val := Elt F) (e := .f32) (⟨Rect.unit (s := S2) ![0] ![1] inb, fun _ => a⟩ :: ⟨Rect.unit (s := S2) ![1] ![1] inb', fun _ => b⟩ :: L)
      = pair a b := by
  funext y
  unfold pair
  by_cases h : (y 0).val = 0
  · rw [if_pos h]
    obtain ⟨x, rfl⟩ := (Rect.unit (s := S2) ![0] ![1] inb).exists_idx_of_mem ((mem_fst inb y).mpr h)
    exact View.canon_cons_emb (Rect.unit (s := S2) ![0] ![1] inb) _ _ x
  · rw [if_neg h]
    have hm : y ∉ (Rect.unit (s := S2) ![0] ![1] inb).set := fun hm => h ((mem_fst inb y).mp hm)
    refine (View.canon_cons_of_not_mem (Val := Elt F) (e := .f32) ⟨Rect.unit (s := S2) ![0] ![1] inb, fun _ => a⟩ _ hm).trans ?_
    obtain ⟨x, rfl⟩ := (Rect.unit (s := S2) ![1] ![1] inb').exists_idx_of_mem ((mem_snd inb' y).mpr h)
    exact View.canon_cons_emb (Rect.unit (s := S2) ![1] ![1] inb') _ L x

/-- The first word read back after stores. -/
theorem rc_fst {sig : RefSig} {κ : Kind} {sp : Space} (v : View sig κ sp S2 .f32) (L : List (View.Piece (Elt F) S2 .f32)) (inb)
    (j : (Rect.unit (s := S2) ![0] S1.size inb).shape.Idx) :
    v.readCov L (Rect.unit (s := S2) ![0] S1.size inb).toLoadRect j = View.canon L (ix1 0) := by
  rw [View.readCov_eq_canon']
  exact ld_fst (View.canon L) inb j

/-- The second word read back after stores. -/
theorem rc_snd {sig : RefSig} {κ : Kind} {sp : Space} (v : View sig κ sp S2 .f32) (L : List (View.Piece (Elt F) S2 .f32)) (inb)
    (j : (Rect.unit (s := S2) ![1] S1.size inb).shape.Idx) :
    v.readCov L (Rect.unit (s := S2) ![1] S1.size inb).toLoadRect j = View.canon L (ix1 1) := by
  rw [View.readCov_eq_canon']
  exact ld_snd (View.canon L) inb j

/-- The first entry of a pair. -/
theorem pair_fst (a b : F .f32) : pair a b (ix1 0) = a := rfl
/-- The second entry of a pair. -/
theorem pair_snd (a b : F .f32) : pair a b (ix1 1) = b := rfl

/-- The zero offset of a whole vector. -/
theorem hz1 : (![0] : Fin 1 → Nat) = fun _ => 0 := funext fun a => by fin_cases a; rfl

section Cases

variable (c : Dev nD) (i : grid0.Coords) (arg1 : Memref sig .tc .smem S1 .f32) (harg1 : arg1.IsWhole)
  (arg2 : Memref sig .tc .vmem S128x256 .f32) (harg2 : arg2.IsWhole)
  (arg3 : Memref sig .tc .vmem S256x8192 .f32) (harg3 : arg3.IsWhole)
  (arg4 : Memref sig .tc .vmem S8192x256 .f32) (harg4 : arg4.IsWhole)
  (arg5 : Memref sig .tc .vmem S128x256 .f32) (harg5 : arg5.IsWhole)
  (arg6 : Memref sig .tc .smem S1 .f32) (harg6 : arg6.IsWhole) (arg7 : Memref sig .tc .smem S1 .f32) (harg7 : arg7.IsWhole)
  (arg8 : Memref sig .tc .vmem S1x8192 .f32) (harg8 : arg8.IsWhole)
  (arg9 : Memref sig .tc .vmem S1x8192 .f32) (harg9 : arg9.IsWhole) (arg10 : Memref sig .tc .smem S2 .f32) (harg10 : arg10.IsWhole)
  (arg11 : Memref sig .tc .vmem S128x8192 .i32) (harg11 : arg11.IsWhole)
  (arg12 : Memref sig .tc .vmem S256x8192 .bf16) (harg12 : arg12.IsWhole)
  (arg13 : Memref sig .tc .vmem S8192x256 .bf16) (harg13 : arg13.IsWhole)
  (x0 : Vec F S1 .f32) (x1 : Vec F S128x256 .f32) (x2 : Vec F S256x8192 .f32) (x3 : Vec F S8192x256 .f32)
  (xs0 : Vec F S1x8192 .f32) (xs1 : Vec F S1x8192 .f32) (xs2 : Vec F S2 .f32) (xs3 : Vec F S128x8192 .i32)
  (xs4 : Vec F S256x8192 .bf16) (xs5 : Vec F S8192x256 .bf16)

/-- A middle point's block of quantized rows. -/
theorem out_B_4 (hc0 : ¬cond0_0 i) (hc1 : ¬cond0_1 i) :
    out0_B_4 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5
      = zqBlock (BitVec.ofNat 32 (i 0).val) (x0 (ix1 0)) x1 xs0 xs3 xs4 xs5 := by
  unfold out0_B_4
  rw [View.read_writes_eq_canon _ _ _ (cover0_B_4 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5)]
  unfold kernelRun0_B
  dsimp only
  sl_unfold_words
  rw [View.canon_cons_unit_zero hz]
  simp only [View.readAt_eq_ld, harg1.read_unread, harg2.read_unread, harg3.read_unread, harg4.read_unread, harg8.read_unread, harg9.read_unread, harg10.read_unread, harg11.read_unread, harg12.read_unread, harg13.read_unread, View.ld_unit_zero (S := S128x256) hz, View.ld_unit_zero (S := S1x8192) hz, View.ld_unit_zero (S := S128x8192) hz, View.ld_unit_zero (S := S256x8192) hz, View.ld_unit_zero (S := S8192x256) hz, View.readCov_unit_zero (S := S1x8192) _ hz, View.readCov_unit_zero (S := S128x8192) _ hz, View.readCov_unit_zero (S := S256x8192) _ hz, View.readCov_unit_zero (S := S8192x256) _ hz, ld_one, ld_fst, ld_snd, rc_fst, rc_snd, ld_one', ld_fst', ld_snd']
  try rw [ld_one']
  try rw [ld_fst']
  try rw [ld_snd']
  try rfl

/-- A middle point's column sums. -/
theorem sout_B_1 (hc0 : ¬cond0_0 i) (hc1 : ¬cond0_1 i) :
    sout0_B_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5
      = avgStep (x0 (ix1 0)) x1 xs0 xs4 xs1 := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5)]
  unfold kernelRun0_B
  dsimp only
  sl_unfold_words
  rw [View.canon_cons_unit_zero hz]
  simp only [View.readAt_eq_ld, harg1.read_unread, harg2.read_unread, harg3.read_unread, harg4.read_unread, harg8.read_unread, harg9.read_unread, harg10.read_unread, harg11.read_unread, harg12.read_unread, harg13.read_unread, View.ld_unit_zero (S := S128x256) hz, View.ld_unit_zero (S := S1x8192) hz, View.ld_unit_zero (S := S128x8192) hz, View.ld_unit_zero (S := S256x8192) hz, View.ld_unit_zero (S := S8192x256) hz, View.readCov_unit_zero (S := S1x8192) _ hz, View.readCov_unit_zero (S := S128x8192) _ hz, View.readCov_unit_zero (S := S256x8192) _ hz, View.readCov_unit_zero (S := S8192x256) _ hz, ld_one, ld_fst, ld_snd, rc_fst, rc_snd, ld_one', ld_fst', ld_snd']
  unfold k0_pay16
  rw [shapeCast_self]
  try rw [ld_one']
  try rw [ld_fst']
  try rw [ld_snd']
  try rfl

/-- A middle point's two loss sums. -/
theorem sout_B_2 (hc0 : ¬cond0_0 i) (hc1 : ¬cond0_1 i) :
    sout0_B_2 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5
      = pair (discStep (x0 (ix1 0)) x1 xs0 xs4 (xs2 (ix1 0))) (contStep (BitVec.ofNat 32 (i 0).val) (x0 (ix1 0)) x1 xs0 xs3 xs4 xs5 (xs2 (ix1 1))) := by
  unfold sout0_B_2
  rw [View.read_writes_eq_canon _ _ _ (scover0_B_2 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5)]
  unfold kernelRun0_B
  dsimp only
  sl_unfold_words
  rw [canon_snd_fst]
  simp only [View.readAt_eq_ld, harg1.read_unread, harg2.read_unread, harg3.read_unread, harg4.read_unread, harg8.read_unread, harg9.read_unread, harg10.read_unread, harg11.read_unread, harg12.read_unread, harg13.read_unread, View.ld_unit_zero (S := S128x256) hz, View.ld_unit_zero (S := S1x8192) hz, View.ld_unit_zero (S := S128x8192) hz, View.ld_unit_zero (S := S256x8192) hz, View.ld_unit_zero (S := S8192x256) hz, View.readCov_unit_zero (S := S1x8192) _ hz, View.readCov_unit_zero (S := S128x8192) _ hz, View.readCov_unit_zero (S := S256x8192) _ hz, View.readCov_unit_zero (S := S8192x256) _ hz, ld_one, ld_fst, ld_snd, rc_fst, rc_snd, ld_one', ld_fst', ld_snd']
  try rw [ld_one']
  try rw [ld_fst']
  try rw [ld_snd']
  try rfl

/-- The last point's block of quantized rows. -/
theorem out_C_4 (hc0 : ¬cond0_0 i) (hc1 : cond0_1 i) :
    out0_C_4 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5
      = zqBlock (BitVec.ofNat 32 (i 0).val) (x0 (ix1 0)) x1 xs0 xs3 xs4 xs5 := by
  unfold out0_C_4
  rw [View.read_writes_eq_canon _ _ _ (cover0_C_4 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5)]
  unfold kernelRun0_C
  dsimp only
  sl_unfold_words
  rw [View.canon_cons_unit_zero hz]
  simp only [View.readAt_eq_ld, harg1.read_unread, harg2.read_unread, harg3.read_unread, harg4.read_unread, harg8.read_unread, harg9.read_unread, harg10.read_unread, harg11.read_unread, harg12.read_unread, harg13.read_unread, View.ld_unit_zero (S := S128x256) hz, View.ld_unit_zero (S := S1x8192) hz, View.ld_unit_zero (S := S128x8192) hz, View.ld_unit_zero (S := S256x8192) hz, View.ld_unit_zero (S := S8192x256) hz, View.readCov_unit_zero (S := S1x8192) _ hz, View.readCov_unit_zero (S := S128x8192) _ hz, View.readCov_unit_zero (S := S256x8192) _ hz, View.readCov_unit_zero (S := S8192x256) _ hz, ld_one, ld_fst, ld_snd, rc_fst, rc_snd, ld_one', ld_fst', ld_snd']
  try rw [ld_one']
  try rw [ld_fst']
  try rw [ld_snd']
  try rfl

/-- The last point's column sums. -/
theorem sout_C_1 (hc0 : ¬cond0_0 i) (hc1 : cond0_1 i) :
    sout0_C_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5
      = avgStep (x0 (ix1 0)) x1 xs0 xs4 xs1 := by
  unfold sout0_C_1
  rw [View.read_writes_eq_canon _ _ _ (scover0_C_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5)]
  unfold kernelRun0_C
  dsimp only
  sl_unfold_words
  rw [View.canon_cons_unit_zero hz]
  simp only [View.readAt_eq_ld, harg1.read_unread, harg2.read_unread, harg3.read_unread, harg4.read_unread, harg8.read_unread, harg9.read_unread, harg10.read_unread, harg11.read_unread, harg12.read_unread, harg13.read_unread, View.ld_unit_zero (S := S128x256) hz, View.ld_unit_zero (S := S1x8192) hz, View.ld_unit_zero (S := S128x8192) hz, View.ld_unit_zero (S := S256x8192) hz, View.ld_unit_zero (S := S8192x256) hz, View.readCov_unit_zero (S := S1x8192) _ hz, View.readCov_unit_zero (S := S128x8192) _ hz, View.readCov_unit_zero (S := S256x8192) _ hz, View.readCov_unit_zero (S := S8192x256) _ hz, ld_one, ld_fst, ld_snd, rc_fst, rc_snd, ld_one', ld_fst', ld_snd']
  unfold k0_pay16
  rw [shapeCast_self]
  try rw [ld_one']
  try rw [ld_fst']
  try rw [ld_snd']
  try rfl

/-- The last point's two loss sums. -/
theorem sout_C_2 (hc0 : ¬cond0_0 i) (hc1 : cond0_1 i) :
    sout0_C_2 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5
      = pair (discStep (x0 (ix1 0)) x1 xs0 xs4 (xs2 (ix1 0))) (contStep (BitVec.ofNat 32 (i 0).val) (x0 (ix1 0)) x1 xs0 xs3 xs4 xs5 (xs2 (ix1 1))) := by
  unfold sout0_C_2
  rw [View.read_writes_eq_canon _ _ _ (scover0_C_2 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5)]
  unfold kernelRun0_C
  dsimp only
  sl_unfold_words
  rw [canon_snd_fst]
  simp only [View.readAt_eq_ld, harg1.read_unread, harg2.read_unread, harg3.read_unread, harg4.read_unread, harg8.read_unread, harg9.read_unread, harg10.read_unread, harg11.read_unread, harg12.read_unread, harg13.read_unread, View.ld_unit_zero (S := S128x256) hz, View.ld_unit_zero (S := S1x8192) hz, View.ld_unit_zero (S := S128x8192) hz, View.ld_unit_zero (S := S256x8192) hz, View.ld_unit_zero (S := S8192x256) hz, View.readCov_unit_zero (S := S1x8192) _ hz, View.readCov_unit_zero (S := S128x8192) _ hz, View.readCov_unit_zero (S := S256x8192) _ hz, View.readCov_unit_zero (S := S8192x256) _ hz, ld_one, ld_fst, ld_snd, rc_fst, rc_snd, ld_one', ld_fst', ld_snd']
  try rw [ld_one']
  try rw [ld_fst']
  try rw [ld_snd']
  try rfl

/-- The loss the last point stores. -/
theorem out_C_5 (hc0 : ¬cond0_0 i) (hc1 : cond0_1 i) :
    out0_C_5 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5
      = fun _ => k0_pay3 (x0 (ix1 0)) (discStep (x0 (ix1 0)) x1 xs0 xs4 (xs2 (ix1 0))) (contStep (BitVec.ofNat 32 (i 0).val) (x0 (ix1 0)) x1 xs0 xs3 xs4 xs5 (xs2 (ix1 1))) := by
  unfold out0_C_5
  rw [View.read_writes_eq_canon _ _ _ (cover0_C_5 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5)]
  unfold kernelRun0_C
  dsimp only
  sl_unfold_words
  rw [View.canon_cons_unit_zero (S := S1) hz1]
  simp only [View.readAt_eq_ld, harg1.read_unread, harg2.read_unread, harg3.read_unread, harg4.read_unread, harg8.read_unread, harg9.read_unread, harg10.read_unread, harg11.read_unread, harg12.read_unread, harg13.read_unread, View.ld_unit_zero (S := S128x256) hz, View.ld_unit_zero (S := S1x8192) hz, View.ld_unit_zero (S := S128x8192) hz, View.ld_unit_zero (S := S256x8192) hz, View.ld_unit_zero (S := S8192x256) hz, View.readCov_unit_zero (S := S1x8192) _ hz, View.readCov_unit_zero (S := S128x8192) _ hz, View.readCov_unit_zero (S := S256x8192) _ hz, View.readCov_unit_zero (S := S8192x256) _ hz, ld_one, ld_fst, ld_snd, rc_fst, rc_snd, ld_one', ld_fst', ld_snd']
  try simp only [canon_snd_fst, pair_fst, pair_snd]
  try rw [ld_one']
  try rw [ld_fst']
  try rw [ld_snd']
  try rfl

/-- The perplexity the last point stores. -/
theorem out_C_6 (hc0 : ¬cond0_0 i) (hc1 : cond0_1 i) :
    out0_C_6 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5
      = fun _ => k0_pay2 (avgStep (x0 (ix1 0)) x1 xs0 xs4 xs1) := by
  unfold out0_C_6
  rw [View.read_writes_eq_canon _ _ _ (cover0_C_6 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs3 xs4 xs5)]
  unfold kernelRun0_C
  dsimp only
  sl_unfold_words
  rw [View.canon_cons_unit_zero (S := S1) hz1]
  simp only [View.readAt_eq_ld, harg1.read_unread, harg2.read_unread, harg3.read_unread, harg4.read_unread, harg8.read_unread, harg9.read_unread, harg10.read_unread, harg11.read_unread, harg12.read_unread, harg13.read_unread, View.ld_unit_zero (S := S128x256) hz, View.ld_unit_zero (S := S1x8192) hz, View.ld_unit_zero (S := S128x8192) hz, View.ld_unit_zero (S := S256x8192) hz, View.ld_unit_zero (S := S8192x256) hz, View.readCov_unit_zero (S := S1x8192) _ hz, View.readCov_unit_zero (S := S128x8192) _ hz, View.readCov_unit_zero (S := S256x8192) _ hz, View.readCov_unit_zero (S := S8192x256) _ hz, ld_one, ld_fst, ld_snd, rc_fst, rc_snd, ld_one', ld_fst', ld_snd']
  unfold k0_pay16
  simp only [shapeCast_self]
  try rw [ld_one']
  try rw [ld_fst']
  try rw [ld_snd']
  try rfl

/-- The first point's block of quantized rows. -/
theorem out_A_4 (hc0 : cond0_0 i) (hc1 : ¬cond0_1 i) :
    out0_A_4 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3
      = zqBlock (BitVec.ofNat 32 (i 0).val) (x0 (ix1 0)) x1 (k0_pay5 x2) k0_pay7 (k0_pay8 x2) (k0_pay9 x3) := by
  unfold out0_A_4
  rw [View.read_writes_eq_canon _ _ _ (cover0_A_4 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3)]
  unfold kernelRun0_A
  dsimp only
  sl_unfold_words
  rw [View.canon_cons_unit_zero hz]
  simp only [View.readAt_eq_ld, harg1.read_unread, harg2.read_unread, harg3.read_unread, harg4.read_unread, harg8.read_unread, harg9.read_unread, harg10.read_unread, harg11.read_unread, harg12.read_unread, harg13.read_unread, View.ld_unit_zero (S := S128x256) hz, View.ld_unit_zero (S := S1x8192) hz, View.ld_unit_zero (S := S128x8192) hz, View.ld_unit_zero (S := S256x8192) hz, View.ld_unit_zero (S := S8192x256) hz, View.readCov_unit_zero (S := S1x8192) _ hz, View.readCov_unit_zero (S := S128x8192) _ hz, View.readCov_unit_zero (S := S256x8192) _ hz, View.readCov_unit_zero (S := S8192x256) _ hz, ld_one, ld_fst, ld_snd, rc_fst, rc_snd, ld_one', ld_fst', ld_snd']
  try rw [ld_one']
  try rw [ld_fst']
  try rw [ld_snd']
  try rfl

/-- The first point's row of squared norms. -/
theorem sout_A_0 (hc0 : cond0_0 i) (hc1 : ¬cond0_1 i) :
    sout0_A_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3
      = (k0_pay5 x2) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3)]
  unfold kernelRun0_A
  dsimp only
  sl_unfold_words
  rw [View.canon_cons_unit_zero hz]
  simp only [View.readAt_eq_ld, harg1.read_unread, harg2.read_unread, harg3.read_unread, harg4.read_unread, harg8.read_unread, harg9.read_unread, harg10.read_unread, harg11.read_unread, harg12.read_unread, harg13.read_unread, View.ld_unit_zero (S := S128x256) hz, View.ld_unit_zero (S := S1x8192) hz, View.ld_unit_zero (S := S128x8192) hz, View.ld_unit_zero (S := S256x8192) hz, View.ld_unit_zero (S := S8192x256) hz, View.readCov_unit_zero (S := S1x8192) _ hz, View.readCov_unit_zero (S := S128x8192) _ hz, View.readCov_unit_zero (S := S256x8192) _ hz, View.readCov_unit_zero (S := S8192x256) _ hz, ld_one, ld_fst, ld_snd, rc_fst, rc_snd, ld_one', ld_fst', ld_snd']
  try rw [ld_one']
  try rw [ld_fst']
  try rw [ld_snd']
  try rfl

/-- The first point's column sums. -/
theorem sout_A_1 (hc0 : cond0_0 i) (hc1 : ¬cond0_1 i) :
    sout0_A_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3
      = avgStep (x0 (ix1 0)) x1 (k0_pay5 x2) (k0_pay8 x2) k0_pay6 := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3)]
  unfold kernelRun0_A
  dsimp only
  sl_unfold_words
  rw [View.canon_cons_unit_zero hz]
  simp only [View.readAt_eq_ld, harg1.read_unread, harg2.read_unread, harg3.read_unread, harg4.read_unread, harg8.read_unread, harg9.read_unread, harg10.read_unread, harg11.read_unread, harg12.read_unread, harg13.read_unread, View.ld_unit_zero (S := S128x256) hz, View.ld_unit_zero (S := S1x8192) hz, View.ld_unit_zero (S := S128x8192) hz, View.ld_unit_zero (S := S256x8192) hz, View.ld_unit_zero (S := S8192x256) hz, View.readCov_unit_zero (S := S1x8192) _ hz, View.readCov_unit_zero (S := S128x8192) _ hz, View.readCov_unit_zero (S := S256x8192) _ hz, View.readCov_unit_zero (S := S8192x256) _ hz, ld_one, ld_fst, ld_snd, rc_fst, rc_snd, ld_one', ld_fst', ld_snd']
  unfold k0_pay16
  simp only [shapeCast_self]
  try rw [ld_one']
  try rw [ld_fst']
  try rw [ld_snd']
  try rfl

/-- The first point's two loss sums. -/
theorem sout_A_2 (hc0 : cond0_0 i) (hc1 : ¬cond0_1 i) :
    sout0_A_2 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3
      = pair (discStep (x0 (ix1 0)) x1 (k0_pay5 x2) (k0_pay8 x2) (Scalar.ofBits .f32 0x00000000#32)) (contStep (BitVec.ofNat 32 (i 0).val) (x0 (ix1 0)) x1 (k0_pay5 x2) k0_pay7 (k0_pay8 x2) (k0_pay9 x3) (Scalar.ofBits .f32 0x00000000#32)) := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3)]
  unfold kernelRun0_A
  dsimp only
  sl_unfold_words
  rw [canon_snd_fst]
  simp only [View.readAt_eq_ld, harg1.read_unread, harg2.read_unread, harg3.read_unread, harg4.read_unread, harg8.read_unread, harg9.read_unread, harg10.read_unread, harg11.read_unread, harg12.read_unread, harg13.read_unread, View.ld_unit_zero (S := S128x256) hz, View.ld_unit_zero (S := S1x8192) hz, View.ld_unit_zero (S := S128x8192) hz, View.ld_unit_zero (S := S256x8192) hz, View.ld_unit_zero (S := S8192x256) hz, View.readCov_unit_zero (S := S1x8192) _ hz, View.readCov_unit_zero (S := S128x8192) _ hz, View.readCov_unit_zero (S := S256x8192) _ hz, View.readCov_unit_zero (S := S8192x256) _ hz, ld_one, ld_fst, ld_snd, rc_fst, rc_snd, ld_one', ld_fst', ld_snd']
  try rw [ld_one']
  try rw [ld_fst']
  try rw [ld_snd']
  try rfl

/-- The first point's index base. -/
theorem sout_A_3 (hc0 : cond0_0 i) (hc1 : ¬cond0_1 i) :
    sout0_A_3 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3
      = k0_pay7 := by
  unfold sout0_A_3
  rw [View.read_writes_eq_canon _ _ _ (scover0_A_3 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3)]
  unfold kernelRun0_A
  dsimp only
  sl_unfold_words
  rw [View.canon_cons_unit_zero hz]

/-- The first point's transposed codebook. -/
theorem sout_A_4 (hc0 : cond0_0 i) (hc1 : ¬cond0_1 i) :
    sout0_A_4 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3
      = k0_pay8 x2 := by
  unfold sout0_A_4
  rw [View.read_writes_eq_canon _ _ _ (scover0_A_4 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3)]
  unfold kernelRun0_A
  dsimp only
  sl_unfold_words
  rw [View.canon_cons_unit_zero hz]
  simp only [View.readAt_eq_ld, harg1.read_unread, harg2.read_unread, harg3.read_unread, harg4.read_unread, harg8.read_unread, harg9.read_unread, harg10.read_unread, harg11.read_unread, harg12.read_unread, harg13.read_unread, View.ld_unit_zero (S := S128x256) hz, View.ld_unit_zero (S := S1x8192) hz, View.ld_unit_zero (S := S128x8192) hz, View.ld_unit_zero (S := S256x8192) hz, View.ld_unit_zero (S := S8192x256) hz, View.readCov_unit_zero (S := S1x8192) _ hz, View.readCov_unit_zero (S := S128x8192) _ hz, View.readCov_unit_zero (S := S256x8192) _ hz, View.readCov_unit_zero (S := S8192x256) _ hz, ld_one, ld_fst, ld_snd, rc_fst, rc_snd, ld_one', ld_fst', ld_snd']
  try rw [ld_one']
  try rw [ld_fst']
  try rw [ld_snd']
  try rfl

/-- The first point's codebook. -/
theorem sout_A_5 (hc0 : cond0_0 i) (hc1 : ¬cond0_1 i) :
    sout0_A_5 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3
      = k0_pay9 x3 := by
  unfold sout0_A_5
  rw [View.read_writes_eq_canon _ _ _ (scover0_A_5 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3)]
  unfold kernelRun0_A
  dsimp only
  sl_unfold_words
  rw [View.canon_cons_unit_zero hz]
  simp only [View.readAt_eq_ld, harg1.read_unread, harg2.read_unread, harg3.read_unread, harg4.read_unread, harg8.read_unread, harg9.read_unread, harg10.read_unread, harg11.read_unread, harg12.read_unread, harg13.read_unread, View.ld_unit_zero (S := S128x256) hz, View.ld_unit_zero (S := S1x8192) hz, View.ld_unit_zero (S := S128x8192) hz, View.ld_unit_zero (S := S256x8192) hz, View.ld_unit_zero (S := S8192x256) hz, View.readCov_unit_zero (S := S1x8192) _ hz, View.readCov_unit_zero (S := S128x8192) _ hz, View.readCov_unit_zero (S := S256x8192) _ hz, View.readCov_unit_zero (S := S8192x256) _ hz, ld_one, ld_fst, ld_snd, rc_fst, rc_snd, ld_one', ld_fst', ld_snd']
  try rw [ld_one']
  try rw [ld_fst']
  try rw [ld_snd']
  try rfl

end Cases

end Cert.KernelIdeal.Body
-- ==== Proof.Kernel.State.lean ====
/-
  What the scratch buffers hold after each grid point, and so what each point writes back.

  The row of squared norms, the index base and the two copies of the codebook are filled at the first point and never
  change; the column sums and the two loss sums run over the points.
-/
module

public import proofs.«01_k».proof.Proof.Kernel.Body

@[expose] public section

set_option maxRecDepth 16384

noncomputable section

open Idealize.ShloMosaic Idealize.ShloMosaic.TcCoe Idealize.SL.Sem Idealize.ShloMosaic.ValueIdx

namespace Cert.KernelIdeal.Body

open Cert.KernelIdeal Cert.KernelIdeal.Gen

variable {F : FTy → Type} [FloatOps F]
variable (m : (ℓ : Loc nD τ sig) → Buf (Elt F) ℓ)

/-- The first grid point. -/
abbrev first : Fin cfg0.N := ⟨0, by rw [show cfg0.N = 128 from N_0]; decide⟩

/-- The precision, as a point reads it. -/
def prec (c : Dev nD) (t : Fin cfg0.N) : F .f32 := (show Vec F S1 .f32 from iblk m c 0 t) (ix1 0)
/-- A point's block of encoder rows. -/
def zblk (c : Dev nD) (t : Fin cfg0.N) : Vec F S128x256 .f32 := iblk m c 1 t
/-- The transposed codebook, as the first point reads it. -/
def cbt (c : Dev nD) : Vec F S256x8192 .f32 := iblk m c 2 first
/-- The codebook, as the first point reads it. -/
def cb (c : Dev nD) : Vec F S8192x256 .f32 := iblk m c 3 first

/-- The number of a point, as the body computes with it. -/
def num (t : Fin cfg0.N) : BitVec 32 := BitVec.ofNat 32 ((grid0.coords t) 0).val

/-- The column sums after point `n`. -/
def avgAt (c : Dev nD) : (n : ℕ) → n < cfg0.N → Vec F S1x8192 .f32
  | 0, h => avgStep (prec m c ⟨0, h⟩) (zblk m c ⟨0, h⟩) (k0_pay5 (cbt m c)) (k0_pay8 (cbt m c)) k0_pay6
  | n + 1, h => avgStep (prec m c ⟨n + 1, h⟩) (zblk m c ⟨n + 1, h⟩) (k0_pay5 (cbt m c)) (k0_pay8 (cbt m c))
      (avgAt c n (Nat.lt_of_succ_lt h))

/-- The discrete loss sum after point `n`. -/
def discAt (c : Dev nD) : (n : ℕ) → n < cfg0.N → F .f32
  | 0, h => discStep (prec m c ⟨0, h⟩) (zblk m c ⟨0, h⟩) (k0_pay5 (cbt m c)) (k0_pay8 (cbt m c)) (Scalar.ofBits .f32 0x00000000#32)
  | n + 1, h => discStep (prec m c ⟨n + 1, h⟩) (zblk m c ⟨n + 1, h⟩) (k0_pay5 (cbt m c)) (k0_pay8 (cbt m c))
      (discAt c n (Nat.lt_of_succ_lt h))

/-- The squared-distance sum after point `n`. -/
def contAt (c : Dev nD) : (n : ℕ) → n < cfg0.N → F .f32
  | 0, h => contStep (num ⟨0, h⟩) (prec m c ⟨0, h⟩) (zblk m c ⟨0, h⟩) (k0_pay5 (cbt m c)) k0_pay7 (k0_pay8 (cbt m c)) (k0_pay9 (cb m c)) (Scalar.ofBits .f32 0x00000000#32)
  | n + 1, h => contStep (num ⟨n + 1, h⟩) (prec m c ⟨n + 1, h⟩) (zblk m c ⟨n + 1, h⟩) (k0_pay5 (cbt m c)) k0_pay7 (k0_pay8 (cbt m c)) (k0_pay9 (cb m c))
      (contAt c n (Nat.lt_of_succ_lt h))

/-- The scratch after a point: the two constant tables, the index base and the running sums. -/
def scratch (c : Dev nD) (n : ℕ) (h : n < cfg0.N) :
    Vec F S1x8192 .f32 × Vec F S1x8192 .f32 × Vec F S2 .f32 × Vec F S128x8192 .i32 × Vec F S256x8192 .bf16 × Vec F S8192x256 .bf16 :=
  (k0_pay5 (cbt m c), avgAt m c n h, pair (discAt m c n h) (contAt m c n h), k0_pay7, k0_pay8 (cbt m c), k0_pay9 (cb m c))

/-- After every point the scratch buffers hold the running sums, by induction on the point. -/
theorem state (c : Dev nD) : ∀ (n : ℕ) (h : n < cfg0.N), (outsAt0 m c n h).2.2.2 = scratch m c n h
  | 0, h => by
    have hA := outsAt0_A m c ⟨0, h⟩ rfl (by show ¬ 0 % 128 = 127; decide)
    refine (congrArg (fun x => x.2.2.2) hA).trans ?_
    unfold scratch
    exact congrArg₂ Prod.mk (sout_A_0 ..) (congrArg₂ Prod.mk (sout_A_1 ..) (congrArg₂ Prod.mk (sout_A_2 ..)
      (congrArg₂ Prod.mk (sout_A_3 ..) (congrArg₂ Prod.mk (sout_A_4 ..) (sout_A_5 ..)))))
  | n + 1, h => by
    have hN : cfg0.N = 128 := N_0
    have ih : (outsAt0 m c (n + 1 - 1) (Nat.lt_of_le_of_lt (Nat.sub_le _ _) h)).2.2.2 = scratch m c n (Nat.lt_of_succ_lt h) := state c n (Nat.lt_of_succ_lt h)
    have h0 : ¬ (⟨n + 1, h⟩ : Fin cfg0.N).val % 128 = 0 := by dsimp only; omega
    by_cases h1 : (⟨n + 1, h⟩ : Fin cfg0.N).val % 128 = 127
    · have hC := outsAt0_C m c ⟨n + 1, h⟩ h0 h1
      refine (congrArg (fun x => x.2.2.2) hC).trans ?_
      dsimp only
      rw [ih]
      unfold scratch
      exact congrArg₂ Prod.mk rfl (congrArg₂ Prod.mk (sout_C_1 ..) (congrArg₂ Prod.mk (sout_C_2 ..) rfl))
    · have hB := outsAt0_B m c ⟨n + 1, h⟩ h0 h1
      refine (congrArg (fun x => x.2.2.2) hB).trans ?_
      dsimp only
      rw [ih]
      unfold scratch
      exact congrArg₂ Prod.mk rfl (congrArg₂ Prod.mk (sout_B_1 ..) (congrArg₂ Prod.mk (sout_B_2 ..) rfl))

/-- Every point stores its block of quantized rows. -/
theorem zq_at (c : Dev nD) (t : Fin cfg0.N) :
    (outsAt0 m c t.val t.isLt).1 = zqBlock (num t) (prec m c t) (zblk m c t) (k0_pay5 (cbt m c)) k0_pay7 (k0_pay8 (cbt m c)) (k0_pay9 (cb m c)) := by
  have hN : cfg0.N = 128 := N_0
  by_cases h0 : t.val % 128 = 0
  · have ht : t = first := Fin.ext (by have := t.isLt; show t.val = 0; omega)
    subst ht
    have hA := outsAt0_A m c first rfl (by decide)
    refine (congrArg (fun x => x.1) hA).trans ?_
    dsimp only
    exact out_A_4 ..
  · obtain ⟨n, hn⟩ := t
    obtain _ | n := n
    · exact absurd rfl h0
    have ih : (outsAt0 m c (n + 1 - 1) (Nat.lt_of_le_of_lt (Nat.sub_le _ _) hn)).2.2.2 = scratch m c n (Nat.lt_of_succ_lt hn) := state m c n (Nat.lt_of_succ_lt hn)
    by_cases h1 : (⟨n + 1, hn⟩ : Fin cfg0.N).val % 128 = 127
    · have hC := outsAt0_C m c ⟨n + 1, hn⟩ h0 h1
      refine (congrArg (fun x => x.1) hC).trans ?_
      dsimp only
      rw [ih]
      exact out_C_4 ..
    · have hB := outsAt0_B m c ⟨n + 1, hn⟩ h0 h1
      refine (congrArg (fun x => x.1) hB).trans ?_
      dsimp only
      rw [ih]
      exact out_B_4 ..

/-- The last grid point. -/
abbrev last : Fin cfg0.N := ⟨127, by rw [show cfg0.N = 128 from N_0]; decide⟩

/-- A later point at which the scalar results are stored writes the loss of the sums up to it. -/
theorem loss_succ (c : Dev nD) (n : ℕ) (h : n + 1 < cfg0.N) (h0 : ¬ (⟨n + 1, h⟩ : Fin cfg0.N).val % 128 = 0)
    (h1 : (⟨n + 1, h⟩ : Fin cfg0.N).val % 128 = 127) : (outsAt0 m c (n + 1) h).2.1
    = fun _ => k0_pay3 (prec m c ⟨n + 1, h⟩) (discAt m c (n + 1) h) (contAt m c (n + 1) h) := by
  have ih : (outsAt0 m c (n + 1 - 1) (Nat.lt_of_le_of_lt (Nat.sub_le _ _) h)).2.2.2 = scratch m c n (Nat.lt_of_succ_lt h) := state m c n (Nat.lt_of_succ_lt h)
  have hC := outsAt0_C m c ⟨n + 1, h⟩ h0 h1
  refine (congrArg (fun x => x.2.1) hC).trans ?_
  dsimp only
  rw [ih]
  exact out_C_5 ..

/-- It writes the perplexity of the column sums up to it. -/
theorem perp_succ (c : Dev nD) (n : ℕ) (h : n + 1 < cfg0.N) (h0 : ¬ (⟨n + 1, h⟩ : Fin cfg0.N).val % 128 = 0)
    (h1 : (⟨n + 1, h⟩ : Fin cfg0.N).val % 128 = 127) : (outsAt0 m c (n + 1) h).2.2.1 = fun _ => k0_pay2 (avgAt m c (n + 1) h) := by
  have ih : (outsAt0 m c (n + 1 - 1) (Nat.lt_of_le_of_lt (Nat.sub_le _ _) h)).2.2.2 = scratch m c n (Nat.lt_of_succ_lt h) := state m c n (Nat.lt_of_succ_lt h)
  have hC := outsAt0_C m c ⟨n + 1, h⟩ h0 h1
  refine (congrArg (fun x => x.2.2.1) hC).trans ?_
  dsimp only
  rw [ih]
  exact out_C_6 ..

/-- The last point stores the loss of the finished sums. -/
theorem loss_at (c : Dev nD) : (outsAt0 m c last.val last.isLt).2.1
    = fun _ => k0_pay3 (prec m c last) (discAt m c 127 last.isLt) (contAt m c 127 last.isLt) :=
  loss_succ m c 126 last.isLt (by decide) rfl

/-- The last point stores the perplexity of the finished column sums. -/
theorem perp_at (c : Dev nD) : (outsAt0 m c last.val last.isLt).2.2.1 = fun _ => k0_pay2 (avgAt m c 127 last.isLt) :=
  perp_succ m c 126 last.isLt (by decide) rfl

end Cert.KernelIdeal.Body
-- ==== Proof.Kernel.Arrays.lean ====
/-
  The arrays around the launch: what each block of an input reads of the arguments, and what the result arrays hold
  after the last point.
-/
module

public import proofs.«01_k».proof.Proof.Kernel.State
public import proofs.«01_k».proof.Proof.Gen.KernelIdeal.Value
public import Idealize.ShloMosaic.Lib.Pointwise

@[expose] public section

set_option maxRecDepth 16384

noncomputable section

namespace Cert.KernelIdeal.Arrays

open Cert.KernelIdeal Cert.KernelIdeal.Gen Cert.KernelIdeal.Body Idealize.ShloMosaic Idealize.ShloMosaic.TcCoe Idealize.SL.Sem

variable {F : FTy → Type} [FloatOps F]
variable (m : (ℓ : Loc nD τ sig) → Buf (Elt F) ℓ)

/-- Every point reads the one block of the precision. -/
theorem index0 : ∀ t : Fin cfg0.N, win0_0.index t (0 : Fin 1) = 0 := (by decide +kernel : ∀ t : Fin grid0.N, _)
/-- A point reads its own block of rows. -/
theorem index1 : ∀ t : Fin cfg0.N, win0_1.index t (0 : Fin 2) = t.val ∧ win0_1.index t (1 : Fin 2) = 0 :=
  (by decide +kernel : ∀ t : Fin grid0.N, _)
/-- Every point reads the one block of the transposed codebook. -/
theorem index2 : ∀ t : Fin cfg0.N, win0_2.index t (0 : Fin 2) = 0 ∧ win0_2.index t (1 : Fin 2) = 0 :=
  (by decide +kernel : ∀ t : Fin grid0.N, _)
/-- Every point reads the one block of the codebook. -/
theorem index3 : ∀ t : Fin cfg0.N, win0_3.index t (0 : Fin 2) = 0 ∧ win0_3.index t (1 : Fin 2) = 0 :=
  (by decide +kernel : ∀ t : Fin grid0.N, _)
/-- A point writes its own block of the quantized rows. -/
theorem index4 : ∀ t : Fin cfg0.N, win0_4.index t (0 : Fin 2) = t.val ∧ win0_4.index t (1 : Fin 2) = 0 :=
  (by decide +kernel : ∀ t : Fin grid0.N, _)
/-- Every point writes the one block of the loss. -/
theorem index5 : ∀ t : Fin cfg0.N, win0_5.index t (0 : Fin 1) = 0 := (by decide +kernel : ∀ t : Fin grid0.N, _)
/-- Every point writes the one block of the perplexity. -/
theorem index6 : ∀ t : Fin cfg0.N, win0_6.index t (0 : Fin 1) = 0 := (by decide +kernel : ∀ t : Fin grid0.N, _)
/-- The one grid coordinate of a point is its number. -/
theorem coords_val : ∀ t : Fin cfg0.N, ((grid0.coords t) 0).val = t.val := (by decide +kernel : ∀ t : Fin grid0.N, _)

/-- The word that the body reads as its point number. -/
theorem num_eq (t : Fin cfg0.N) : num t = BitVec.ofNat 32 t.val := congrArg (BitVec.ofNat 32) (coords_val t)

/-- The one index of a one-element array. -/
theorem one_idx (i j : S1.Idx) : i = j := by
  funext a
  match a with
  | ⟨0, _⟩ =>
    have h1 : (i 0).val < 1 := (i 0).isLt
    have h2 : (j 0).val < 1 := (j 0).isLt
    exact Fin.ext (by show (i 0).val = (j 0).val; omega)

/-- A point's block of rows reads the rows of the argument. -/
theorem zblk_apply (c : Dev nD) (t : Fin cfg0.N) (r : Fin 128) (d : Fin 256) (n : Fin 16384) (hn : n.val = t.val * 128 + r.val) :
    zblk m c t (ix2 r d) = m ((c : Thread nD τ).loc main_arg0) (ix2 n d) := by
  obtain ⟨e0, e1⟩ := index1 t
  show V m c main_arg0 (((cfg0.win 1).blk t).view.emb (ix2 r d)) = _
  rw [V_main_arg0]
  refine congrArg _ (funext fun a => Fin.ext ?_)
  match a with
  | ⟨0, _⟩ => show win0_1.index t (0 : Fin 2) * 128 + 1 * r.val = n.val; omega
  | ⟨1, _⟩ => show win0_1.index t (1 : Fin 2) * 256 + 1 * d.val = d.val; omega

/-- The codebook's window reads the argument. -/
theorem cb_apply (c : Dev nD) (k : Fin 8192) (d : Fin 256) :
    cb m c (ix2 k d) = m ((c : Thread nD τ).loc main_arg2) (ix2 k d) := by
  obtain ⟨e0, e1⟩ := index3 first
  show V m c main_arg2 (((cfg0.win 3).blk first).view.emb (ix2 k d)) = _
  rw [V_main_arg2]
  refine congrArg _ (funext fun a => Fin.ext ?_)
  match a with
  | ⟨0, _⟩ => show win0_3.index first (0 : Fin 2) * 8192 + 1 * k.val = k.val; omega
  | ⟨1, _⟩ => show win0_3.index first (1 : Fin 2) * 256 + 1 * d.val = d.val; omega

/-- The transposed codebook, as the host leaves it. -/
theorem V_transposed (c : Dev nD) : V m c main_v3
    = transpose S256x8192 [1, 0] (m ((c : Thread nD τ).loc main_arg2)) transposes_S8192x256_S256x8192_1_0 := by
  simp only [V, List.flatten_cons, List.flatten_nil, List.cons_append, List.nil_append, List.append_nil]
  after_results

/-- The precision, as the host leaves it. -/
theorem V_precision (c : Dev nD) : V m c main_v2
    = Host.divf (broadcastInDim S1 ![] bcast_S_S1 (constant S_ .f32 0x3F800000#32))
        (maximumf (broadcastInDim S1 ![] bcast_S_S1 (constant S_ .f32 0x2EDBE6FF#32)) (m ((c : Thread nD τ).loc main_arg1))) := by
  simp only [V, List.flatten_cons, List.flatten_nil, List.cons_append, List.nil_append, List.append_nil]
  after_results
  rfl

/-- The transposed codebook's window reads the argument with its coordinates exchanged. -/
theorem cbt_apply (c : Dev nD) (d : Fin 256) (k : Fin 8192) :
    cbt m c (ix2 d k) = m ((c : Thread nD τ).loc main_arg2) (ix2 k d) := by
  obtain ⟨e0, e1⟩ := index2 first
  show V m c main_v3 (((cfg0.win 2).blk first).view.emb (ix2 d k)) = _
  have e : ((cfg0.win 2).blk first).view.emb (ix2 d k) = (ix2 d k : S256x8192.Idx) := by
    funext a; apply Fin.ext
    match a with
    | ⟨0, _⟩ => show win0_2.index first (0 : Fin 2) * 256 + 1 * d.val = d.val; omega
    | ⟨1, _⟩ => show win0_2.index first (1 : Fin 2) * 8192 + 1 * k.val = k.val; omega
  rw [e, V_transposed]
  generalize m ((c : Thread nD τ).loc main_arg2) = y
  pointwise []

/-- An index of the rows' result is in its point's block. -/
theorem mem4 (t : Fin cfg0.N) (i : S16384x256.Idx) (h : t.val * 128 ≤ (i 0).val ∧ (i 0).val < t.val * 128 + 128) :
    i ∈ ((cfg0.win 4).blk t).view.set := by
  obtain ⟨e0, e1⟩ := index4 t
  have h1 : (i 1).val < 256 := (i 1).isLt
  let j : S128x256.Idx := ix2 ⟨(i 0).val - t.val * 128, by omega⟩ ⟨(i 1).val, h1⟩
  have e : ((cfg0.win 4).blk t).view.emb j = i := by
    funext a; apply Fin.ext
    match a with
    | ⟨0, _⟩ => show win0_4.index t (0 : Fin 2) * 128 + 1 * ((i 0).val - t.val * 128) = (i 0).val; omega
    | ⟨1, _⟩ => show win0_4.index t (1 : Fin 2) * 256 + 1 * (i 1).val = (i 1).val; omega
  rw [← e]
  exact ((cfg0.win 4).blk t).view.emb_mem_set j

/-- The rows' result after the run is any array whose block every point stores. -/
theorem final4 (c : Dev nD) (G : Vec F S16384x256 .f32)
    (hG : ∀ (t : Fin cfg0.N) (r : Fin 128) (d : Fin 256) (n : Fin 16384), n.val = t.val * 128 + r.val →
      (outsAt0 m c t.val t.isLt).1 (ix2 r d) = G (ix2 n d)) :
    (dats m 0 c).arrAt 4 cfg0.N = G := by
  have hN : cfg0.N = 128 := N_0
  refine (dats m 0 c).arrAt_eq_of_cover 4 G (fun t _ => ?_) (fun i => ?_)
  · obtain ⟨e0, e1⟩ := index4 t
    have ht := t.isLt
    rw [Cert.KernelIdeal.Value.flushed4]
    funext j
    show (outsAt0 m c t.val t.isLt).1 j = G (((cfg0.win 4).blk t).view.emb j)
    obtain ⟨r, d, rfl⟩ : ∃ (r : Fin 128) (d : Fin 256), j = (ix2 r d : S128x256.Idx) :=
      ⟨j 0, j 1, funext fun a => by match a with | ⟨0, _⟩ => rfl | ⟨1, _⟩ => rfl⟩
    have hr := r.isLt
    rw [hG t r d ⟨t.val * 128 + r.val, by omega⟩ rfl]
    refine congrArg G (funext fun a => Fin.ext ?_)
    match a with
    | ⟨0, _⟩ => show t.val * 128 + r.val = win0_4.index t (0 : Fin 2) * 128 + 1 * r.val; omega
    | ⟨1, _⟩ => show d.val = win0_4.index t (1 : Fin 2) * 256 + 1 * d.val; omega
  · have h0 : (i 0).val < 16384 := (i 0).isLt
    refine ⟨⟨(i 0).val / 128, by omega⟩, flush0_4 _, mem4 _ i ?_⟩
    dsimp only
    omega

/-- Only the last point flushes a scalar result. -/
theorem flush_last (t : Fin cfg0.N) (h : t.val % 128 = 127) : t = last := by
  have hN : cfg0.N = 128 := N_0
  have := t.isLt
  exact Fin.ext (by show t.val = 127; omega)

/-- The loss's array after the run holds what the last point stores. -/
theorem final5 (c : Dev nD) (v : F .f32) (h : (outsAt0 m c last.val last.isLt).2.1 = fun _ => v) :
    (dats m 0 c).arrAt 5 cfg0.N = (fun _ => v : Vec F S1 .f32) := by
  refine (dats m 0 c).arrAt_eq_of_cover 5 (fun _ => v : Vec F S1 .f32) (fun t ht => ?_) (fun i => ⟨last, (flush0_5 last).2 rfl, ?_⟩)
  · obtain rfl := flush_last t ((flush0_5 t).1 ht)
    rw [Cert.KernelIdeal.Value.flushed5, h]
    rfl
  · rw [one_idx i (((cfg0.win 5).blk last).view.emb (ix1 0 : S1.Idx))]
    exact ((cfg0.win 5).blk last).view.emb_mem_set (ix1 0 : S1.Idx)

/-- The perplexity's array after the run holds what the last point stores. -/
theorem final6 (c : Dev nD) (v : F .f32) (h : (outsAt0 m c last.val last.isLt).2.2.1 = fun _ => v) :
    (dats m 0 c).arrAt 6 cfg0.N = (fun _ => v : Vec F S1 .f32) := by
  refine (dats m 0 c).arrAt_eq_of_cover 6 (fun _ => v : Vec F S1 .f32) (fun t ht => ?_) (fun i => ⟨last, (flush0_6 last).2 rfl, ?_⟩)
  · obtain rfl := flush_last t ((flush0_6 t).1 ht)
    rw [Cert.KernelIdeal.Value.flushed6, h]
    rfl
  · rw [one_idx i (((cfg0.win 6).blk last).view.emb (ix1 0 : S1.Idx))]
    exact ((cfg0.win 6).blk last).view.emb_mem_set (ix1 0 : S1.Idx)

end Cert.KernelIdeal.Arrays

end
-- ==== Proof.Kernel.Precision.lean ====
/-
  The kernel's precision: the scalar that its host program leaves for every grid point.
-/
module

public import proofs.«01_k».proof.Proof.Kernel.Arrays
public import proofs.«01_k».proof.Proof.Maths.Consts

@[expose] public section

set_option maxRecDepth 16384

noncomputable section

namespace Cert.KernelIdeal.Arrays

open Cert.KernelIdeal Cert.KernelIdeal.Gen Cert.KernelIdeal.Body Cert.Vq Idealize.ShloMosaic Idealize.ShloMosaic.TcCoe Idealize.SL.Sem

variable (m : (ℓ : Loc nD τ sig) → Buf (Elt Ideal) ℓ)

/-- Every grid point reads the one precision that the host program computes from the parameter. -/
theorem prec_eq (c : Dev nD) (t : Fin cfg0.N) : prec m c t
    = Host.divf (broadcastInDim S1 ![] bcast_S_S1 (constant S_ .f32 0x3F800000#32))
        (maximumf (broadcastInDim S1 ![] bcast_S_S1 (constant S_ .f32 0x2EDBE6FF#32)) (m ((c : Thread nD τ).loc main_arg1))) (ix1 0) := by
  show V m c main_v2 (((cfg0.win 0).blk t).view.emb (ix1 0)) = _
  rw [V_precision, one_idx (((cfg0.win 0).blk t).view.emb (ix1 0)) (ix1 0)]

/-- The precision from the parameter, over the extended reals. -/
theorem precision_apply (x : FVec Ideal S1 .f32) :
    (Host.divf (F := Ideal) (broadcastInDim S1 ![] bcast_S_S1 (constant S_ .f32 0x3F800000#32))
        (maximumf (broadcastInDim S1 ![] bcast_S_S1 (constant S_ .f32 0x2EDBE6FF#32)) x) : FVec Ideal S1 .f32) (ix1 0)
      = Ideal.div 1 (max ((tiny : ℝ) : EReal) (x (ix1 0))) := by
  rw [← word_tiny, ← EReal.coe_one, ← word_one]
  rfl

end Cert.KernelIdeal.Arrays

end
-- ==== Proof.Kernel.Block.lean ====
/-
  What one block computes over the reals: the kernel's payloads at operands whose entries are reals, each entry read as
  the real function of the specification.
-/
module

public import proofs.«01_k».proof.Proof.Kernel.Body
public import proofs.«01_k».proof.Proof.Maths.Soft
public import proofs.«01_k».proof.Proof.Maths.Consts
public import Idealize.ShloMosaic.Lib.Pointwise

@[expose] public section

set_option maxRecDepth 16384

noncomputable section

namespace Cert.KernelIdeal.Block

open Cert.KernelIdeal Cert.KernelIdeal.Gen Cert.KernelIdeal.Body Cert.Vq Idealize.ShloMosaic Idealize.ShloMosaic.TcCoe

variable (p : Ideal .f32) (z : Vec Ideal S128x256 .f32) (csq : Vec Ideal S1x8192 .f32)
  (cbt : Vec Ideal S256x8192 .bf16) (cb : Vec Ideal S8192x256 .bf16)
  (q : ℝ) (zR : Fin 128 → Fin 256 → ℝ) (cR : Fin 8192 → Fin 256 → ℝ)

/-- The row of codes' squared norms. -/
theorem csq_apply (c : Vec Ideal S256x8192 .f32) (hc : ∀ d k, c (ix2 d k) = ((cR k d : ℝ) : EReal)) (k : Fin 8192) :
    k0_pay5 c (ix2 0 k) = ((∑ d, cR k d * cR k d : ℝ) : EReal) := by
  pointwise [k0_pay5, k0_pay4]
  simp only [hc, ← EReal.coe_mul, coe_sum]

/-- The logits of a block. -/
theorem logit_apply (hp : p = ((q : ℝ) : EReal)) (hz : ∀ r d, z (ix2 r d) = ((zR r d : ℝ) : EReal))
    (hq : ∀ k, csq (ix2 0 k) = ((∑ d, cR k d * cR k d : ℝ) : EReal))
    (hc : ∀ d k, cbt (ix2 d k) = ((cR k d : ℝ) : EReal)) (r : Fin 128) (k : Fin 8192) :
    k0_pay10 p z cbt csq (ix2 r k) = ((logit q (zR r) (cR k) : ℝ) : EReal) := by
  pointwise [k0_pay10]
  simp only [hp, hz, hq, hc, word_two, word_half]
  simp only [← EReal.coe_zero, ← EReal.coe_mul, coe_sum, ← EReal.coe_add, ← EReal.coe_sub]
  unfold logit
  congr 2
  ring

/-- A row's softmax pieces: lowered by its maximum, some real, the row's logits give the exponentials, their sum and the
    probabilities. -/
theorem row_apply (L : Fin 128 → Fin 8192 → ℝ)
    (hl : ∀ r k, k0_pay10 p z cbt csq (ix2 r k) = ((L r k : ℝ) : EReal)) (r : Fin 128) :
    ∃ M : ℝ, (∀ k, k0_pay11 p z cbt csq (ix2 r k) = ((L r k - M : ℝ) : EReal))
      ∧ k0_pay13 p z cbt csq (ix2 r 0) = ((∑ k, Real.exp (L r k - M) : ℝ) : EReal)
      ∧ ∀ k, k0_pay14 p z cbt csq (ix2 r k) = ((soft (L r) k : ℝ) : EReal) := by
  obtain ⟨M, hM⟩ := exists_fold_max (L r)
  have h11 : ∀ k, k0_pay11 p z cbt csq (ix2 r k) = ((L r k - M : ℝ) : EReal) := by
    intro k
    unfold k0_pay11
    generalize k0_pay10 p z cbt csq = l at hl
    pointwise []
    simp only [hl, word_neg_inf, hM, ← EReal.coe_sub]
  have h12 : ∀ k, k0_pay12 p z cbt csq (ix2 r k) = Ideal.exp ((L r k - M : ℝ) : EReal) := by
    intro k
    rw [← h11]
    rfl
  have h13 : k0_pay13 p z cbt csq (ix2 r 0) = ∑ k, Ideal.exp ((L r k - M : ℝ) : EReal) := by
    unfold k0_pay13
    generalize k0_pay12 p z cbt csq = e at h12
    pointwise []
    simp only [h12]
  refine ⟨M, h11, ?_, fun k => ?_⟩
  · simp only [h13, exp_coe, coe_sum]
  · unfold k0_pay14
    generalize k0_pay12 p z cbt csq = e at h12
    generalize k0_pay13 p z cbt csq = s at h13
    pointwise []
    rw [h12, h13, soft_mul]

/-- The column sums of the probabilities, one block added. -/
theorem avg_apply (L : Fin 128 → Fin 8192 → ℝ)
    (hl : ∀ r k, k0_pay10 p z cbt csq (ix2 r k) = ((L r k : ℝ) : EReal)) (avg : Vec Ideal S1x8192 .f32) (k : Fin 8192) (a : ℝ)
    (ha : avg (ix2 0 k) = ((a : ℝ) : EReal)) :
    avgStep p z csq cbt avg (ix2 0 k) = ((a + ∑ r, soft (L r) k : ℝ) : EReal) := by
  have h14 : ∀ r, k0_pay14 p z cbt csq (ix2 r k) = ((soft (L r) k : ℝ) : EReal) := fun r =>
    let ⟨_, _, _, h⟩ := row_apply p z csq cbt L hl r
    h k
  unfold avgStep k0_pay15
  generalize k0_pay14 p z cbt csq = e at h14
  pointwise []
  simp only [h14, ha, coe_sum, ← EReal.coe_add]

/-- The sum of the probabilities times their logarithms, one block added. -/
theorem disc_apply (L : Fin 128 → Fin 8192 → ℝ)
    (hl : ∀ r k, k0_pay10 p z cbt csq (ix2 r k) = ((L r k : ℝ) : EReal)) (a : ℝ) :
    discStep p z csq cbt (((a : ℝ) : EReal)) = ((a + ∑ r, ∑ k, soft (L r) k * lsoft (L r) k : ℝ) : EReal) := by
  choose M h11 h13 h14 using row_apply p z csq cbt L hl
  unfold discStep
  generalize k0_pay11 p z cbt csq = x at h11
  generalize k0_pay13 p z cbt csq = s at h13
  generalize k0_pay14 p z cbt csq = e at h14
  pointwise [k0_pay17]
  simp only [h11, h13, h14, log_coe _ (sum_exp_pos _), Finset.univ_unique, Finset.sum_singleton, ← EReal.coe_mul, coe_sum,
    ← EReal.coe_sub, ← EReal.coe_add, ← Finset.sum_sub_distrib, mean_sub]

/-- The words of a block's draws, from the two cipher words of every entry. -/
def drawBlock (a b : IVec S128x8192 32) : IVec S128x8192 32 :=
  ori (shrui (xori (addi a (broadcast S128x8192 466689008#32)) (addi b (broadcast S128x8192 5#32))) (broadcast S128x8192 9#32))
    (broadcast S128x8192 1065353216#32)

/-- The noise of a block as it is taken off the logits, from the words of its draws. -/
def noiseBlock (w : IVec S128x8192 32) : FVec Ideal S128x8192 .f32 :=
  log (subf (broadcast S128x8192 (Scalar.ofBits .f32 0x2EDBE6FF#32))
    (log (addf (subf (bitcastToFloat .f32 w) (broadcast S128x8192 (Scalar.ofBits .f32 0x3F800000#32)))
      (broadcast S128x8192 (Scalar.ofBits .f32 0x2EDBE6FF#32)))))

/-- The exponentials of a block's rows, each entry lowered by its row's maximum and doubled. -/
def doubled (t : FVec Ideal S128x8192 .f32) : FVec Ideal S128x8192 .f32 :=
  exp (mulf (subf t (broadcastTo S128x8192 (shapeCast S128x1 (multiReduction .maximumf [1] S128 t 0xFF800000#32 reduces_S128x8192_S128 (.inl rfl) rfl)
    shapeCasts_S128_S128x1) broadcasts_S128x1_S128x8192)) (broadcast S128x8192 (Scalar.ofBits .f32 0x40000000#32)))

/-- A block over its row sums. -/
def normalized (e : FVec Ideal S128x8192 .f32) : FVec Ideal S128x8192 .f32 :=
  mulf e (broadcastTo S128x8192 (divf (broadcast S128x1 (Scalar.ofBits .f32 0x3F800000#32))
    (shapeCast S128x1 (multiReduction .add [1] S128 e 0x00000000#32 reduces_S128x8192_S128 (.inl rfl) rfl) shapeCasts_S128_S128x1))
    broadcasts_S128x1_S128x8192)

/-- The stored block is the product of the relaxed choice and the codes. -/
theorem quant_eq (l : FVec Ideal S128x8192 .f32) (a b : IVec S128x8192 32) :
    k0_pay60 l a b 466689008#32 cb = matmul dot_S128x8192_S8192x256_S128x256_1_0_0_1_n_n none
      (truncf .bf16 (normalized (doubled (subf l (noiseBlock (drawBlock a b))))) bitsLt_bf16_f32) (show FVec Ideal S8192x256 .bf16 from cb) (constant S128x256 .f32 0x00000000#32) := rfl

/-- The word of an entry's draw. -/
theorem drawBlock_apply (a b : IVec S128x8192 32) (i : S128x8192.Idx) :
    drawBlock a b i = drawWord ((a i + 466689008#32) ^^^ (b i + 5#32)) := by
  show IntOp.ori (IntOp.shrui .vector (IntOp.xori (IntOp.addi (a i) 466689008#32) (IntOp.addi (b i) 5#32)) 9#32) 1065353216#32 = _
  unfold IntOp.shrui IntOp.ori IntOp.xori IntOp.addi drawWord
  rw [if_pos (by decide), BitVec.ushiftRight_eq']
  simp

/-- The noise of an entry, from the word of its draw. -/
theorem noiseBlock_word (w : IVec S128x8192 32) (i : S128x8192.Idx) :
    noiseBlock w i = Ideal.log (((tiny : ℝ) : EReal) - Ideal.log (Ideal.ofBits .f32 (w i) - 1 + ((tiny : ℝ) : EReal))) := by
  show Ideal.log (Ideal.ofBits .f32 0x2EDBE6FF#32 - Ideal.log (Ideal.ofBits .f32 (w i) - Ideal.ofBits .f32 0x3F800000#32
      + Ideal.ofBits .f32 0x2EDBE6FF#32)) = _
  generalize Ideal.ofBits .f32 (w i) = u
  rw [word_tiny, word_one, EReal.coe_one]

/-- The noise of an entry. -/
theorem noiseBlock_apply (a b : IVec S128x8192 32) (i : S128x8192.Idx) :
    noiseBlock (drawBlock a b) i = ((-noise ((a i + 466689008#32) ^^^ (b i + 5#32)) : ℝ) : EReal) := by
  rw [noiseBlock_word, drawBlock_apply]
  exact noise_kernel _

/-- The exponentials of a row. -/
theorem doubled_apply (t : FVec Ideal S128x8192 .f32) (T : Fin 128 → Fin 8192 → ℝ) (ht : ∀ r k, t (ix2 r k) = ((T r k : ℝ) : EReal))
    (r : Fin 128) : ∃ M : ℝ, ∀ k, doubled t (ix2 r k) = Ideal.exp ((2 * T r k - M : ℝ) : EReal) := by
  obtain ⟨M, hM⟩ := exists_fold_max (T r)
  refine ⟨2 * M, fun k => ?_⟩
  pointwise [doubled]
  simp only [ht, word_neg_inf, hM, word_two, ← EReal.coe_sub, ← EReal.coe_mul]
  exact congrArg (fun x : ℝ => Ideal.exp (x : EReal)) (by ring)

/-- The relaxed choice of a row: the softmax of the doubled noisy logits. -/
theorem choice_apply (t : FVec Ideal S128x8192 .f32) (T : Fin 128 → Fin 8192 → ℝ) (ht : ∀ r k, t (ix2 r k) = ((T r k : ℝ) : EReal))
    (r : Fin 128) (k : Fin 8192) : normalized (doubled t) (ix2 r k) = ((soft (fun j => 2 * T r j) k : ℝ) : EReal) := by
  obtain ⟨M, hM⟩ := doubled_apply t T ht r
  generalize doubled t = e at hM
  pointwise [normalized]
  simp only [hM]
  exact soft_mul (fun j => 2 * T r j) M k

/-- The stored block: each row's relaxed choice of the codes. -/
theorem quant_apply (l : FVec Ideal S128x8192 .f32) (L : Fin 128 → Fin 8192 → ℝ) (hl : ∀ r k, l (ix2 r k) = ((L r k : ℝ) : EReal))
    (hc : ∀ k d, cb (ix2 k d) = ((cR k d : ℝ) : EReal)) (a b : IVec S128x8192 32) (r : Fin 128) (d : Fin 256) :
    k0_pay60 l a b 466689008#32 cb (ix2 r d)
      = ((∑ k, soft (fun j => 2 * (L r j + noise ((a (ix2 r j) + 466689008#32) ^^^ (b (ix2 r j) + 5#32)))) k * cR k d : ℝ) : EReal) := by
  have ht := choice_apply (subf l (noiseBlock (drawBlock a b))) (fun r j => L r j + noise ((a (ix2 r j) + 466689008#32) ^^^ (b (ix2 r j) + 5#32)))
    (fun r j => by
      show l (ix2 r j) - noiseBlock (drawBlock a b) (ix2 r j) = _
      rw [hl, noiseBlock_apply, ← EReal.coe_sub, sub_neg_eq_add])
  rw [quant_eq]
  generalize normalized (doubled (subf l (noiseBlock (drawBlock a b)))) = e at ht
  pointwise []
  simp only [ht, hc, ← EReal.coe_mul, coe_sum]

/-- The sum of the squared errors, one block added. -/
theorem cont_apply (l : FVec Ideal S128x8192 .f32) (Q : Fin 128 → Fin 256 → ℝ) (a b : IVec S128x8192 32)
    (hz : ∀ r d, z (ix2 r d) = ((zR r d : ℝ) : EReal))
    (hQ : ∀ r d, k0_pay60 l a b 466689008#32 cb (ix2 r d) = ((Q r d : ℝ) : EReal)) (c : ℝ) :
    k0_pay1 (((c : ℝ) : EReal)) (k0_pay61 z l a b 466689008#32 cb)
      = ((c + ∑ r, ∑ d, (zR r d - Q r d) * (zR r d - Q r d) : ℝ) : EReal) := by
  unfold k0_pay61
  generalize k0_pay60 l a b 466689008#32 cb = e at hQ
  pointwise [k0_pay1]
  simp only [hz, hQ, ← EReal.coe_sub, ← EReal.coe_mul, coe_sum, ← EReal.coe_add]

/-- The loss from the two sums. -/
theorem loss_apply (q a b : ℝ) :
    k0_pay3 (F := Ideal) (((q : ℝ) : EReal)) (((a : ℝ) : EReal)) (((b : ℝ) : EReal)) = ((a / 16384 + 1 / 2 * q * b / 16384 : ℝ) : EReal) := by
  pointwise [k0_pay3]
  simp only [word_rows, word_half, ← EReal.coe_mul, div_coe _ _ (show (16384 : ℝ) ≠ 0 by norm_num), ← EReal.coe_add]

/-- The perplexity from the column sums. -/
theorem perp_apply (avg : Vec Ideal S1x8192 .f32) (A : Fin 8192 → ℝ) (hA : ∀ k, 0 ≤ A k) (ha : ∀ k, avg (ix2 0 k) = ((A k : ℝ) : EReal)) :
    k0_pay2 avg = ((Real.exp (-∑ k, A k / 16384 * Real.log (A k / 16384 + small)) : ℝ) : EReal) := by
  pointwise [k0_pay2]
  have hpos : ∀ k, 0 < A k / 16384 + small := fun k => add_pos_of_nonneg_of_pos (div_nonneg (hA k) (by norm_num)) small_pos
  simp only [ha, word_rows, word_small, div_coe _ _ (show (16384 : ℝ) ≠ 0 by norm_num), ← EReal.coe_add, log_coe _ (hpos _), ← EReal.coe_mul,
    coe_sum, Finset.univ_unique, Finset.sum_singleton, zero_sub, ← EReal.coe_neg]
  rfl

end Cert.KernelIdeal.Block
-- ==== Proof.Maths.Cipher.lean ====
/-
  The counter cipher that draws the noise: twenty rounds of adding, rotating and mixing two words, with a pair of key
  words added after every four.
-/
module

public import Idealize.ShloMosaic.Lib.ValueIdx
public import Mathlib.Data.BitVec

@[expose] public section

noncomputable section

open Idealize.ShloMosaic

namespace Cert.Vq

/-- The two words of the cipher's state. -/
abbrev Pair := BitVec 32 × BitVec 32

/-- One round: the first word takes the sum, the second is rotated left by `a` (right by `b`, with `a + b = 32`) and mixed with it. -/
def turn (a b : ℕ) (s : Pair) : Pair := (s.1 + s.2, (s.1 + s.2) ^^^ ((s.2 <<< a) ||| (s.2 >>> b)))

/-- A pair of key words is added. -/
def keyed (k l : BitVec 32) (s : Pair) : Pair := (s.1 + k, s.2 + l)

/-- Four rounds of the first kind. -/
def foura (s : Pair) : Pair := turn 6 26 (turn 26 6 (turn 15 17 (turn 13 19 s)))

/-- Four rounds of the second kind. -/
def fourb (s : Pair) : Pair := turn 24 8 (turn 16 16 (turn 29 3 (turn 17 15 s)))

/-- The state after the first eight rounds and their keys. -/
def early (x : BitVec 32) : Pair :=
  keyed 466689008#32 2#32 (fourb (keyed 42#32 466689009#32 (foura (0#32, x + 42#32))))

/-- The state after all twenty rounds, from that after eight. -/
def late (s : Pair) : Pair :=
  foura (keyed 42#32 466689012#32 (fourb (keyed 0#32 45#32 (foura s))))

/-- The word drawn for counter `x`: the two words after the last keys, mixed. -/
def cipher (x : BitVec 32) : BitVec 32 := ((late (early x)).1 + 466689008#32) ^^^ ((late (early x)).2 + 5#32)

/-- The counter of an entry of the 16384 by 8192 matrix of draws. -/
def counter (n k : ℕ) : BitVec 32 := BitVec.ofNat 32 n * 8192#32 + BitVec.ofNat 32 k

/-- A left shift by a literal amount below the width, on any unit. -/
theorem shl_lit (u : ArithUnit) (x : BitVec 32) (n : ℕ) (hn : n < 32) : IntOp.shli u x (BitVec.ofNat 32 n) = x <<< n := by
  have h : (BitVec.ofNat 32 n).toNat = n := by rw [BitVec.toNat_ofNat]; omega
  unfold IntOp.shli
  rw [if_pos (by rw [h]; exact hn), BitVec.shiftLeft_eq', h]

/-- A right shift by a literal amount below the width, on any unit. -/
theorem shr_lit (u : ArithUnit) (x : BitVec 32) (n : ℕ) (hn : n < 32) : IntOp.shrui u x (BitVec.ofNat 32 n) = x >>> n := by
  have h : (BitVec.ofNat 32 n).toNat = n := by rw [BitVec.toNat_ofNat]; omega
  unfold IntOp.shrui
  rw [if_pos (by rw [h]; exact hn), BitVec.ushiftRight_eq', h]

/-- The counter within a block of 128 rows and the block's base add up to the counter of the row. -/
theorem counter_block (t r k : ℕ) :
    (BitVec.ofNat 32 r * 8192#32 + BitVec.ofNat 32 k) + BitVec.ofNat 32 t * 128#32 * 8192#32 = counter (t * 128 + r) k := by
  unfold counter
  rw [BitVec.ofNat_add, BitVec.ofNat_mul]
  ring

end Cert.Vq

end
-- ==== Proof.Kernel.Words.lean ====
/-
  The random words of a block: each entry's two words are the cipher's state at the counter of the entry.
-/
module

public import proofs.«01_k».proof.Proof.Kernel.Body
public import proofs.«01_k».proof.Proof.Maths.Cipher
public import Idealize.ShloMosaic.Lib.Pointwise

@[expose] public section

set_option maxRecDepth 16384

noncomputable section

namespace Cert.KernelIdeal.Words

open Cert.KernelIdeal Cert.KernelIdeal.Gen Cert.KernelIdeal.Body Cert.Vq Idealize.ShloMosaic Idealize.ShloMosaic.TcCoe

variable {F : FTy → Type} [FloatOps F]

/-- The state after two rounds of the first four, from the keyed counter. -/
def two (x : BitVec 32) : Pair := turn 15 17 (turn 13 19 (0#32, x))

/-- What the first part leaves: the next first word, and the two halves of the next rotation. -/
theorem first_part (n : BitVec 32) (lo : Vec F S128x8192 .i32) (i : S128x8192.Idx) (x : BitVec 32)
    (hx : k0_pay18 n lo i = x) :
    k0_pay22 n lo i = (two x).1 + (two x).2 ∧ k0_pay23 n lo i = (two x).2 <<< 26 ∧ k0_pay24 n lo i = (two x).2 >>> 6 := by
  unfold k0_pay22 k0_pay23 k0_pay24 k0_pay21 k0_pay20 k0_pay19
  generalize k0_pay18 n lo = v at hx
  simp only [addi, xori, ori, shli, shrui, broadcast, IntOp.addi, IntOp.xori, IntOp.ori, hx]
  simp (disch := decide) only [shl_lit, shr_lit, two, turn, BitVec.zero_add, and_self]

/-- What the second part leaves, from the state two rounds in: the state after eight rounds, the words added. -/
theorem second_part (a b d : IVec S128x8192 32) (i : S128x8192.Idx) (s : Pair)
    (ha : a i = s.1 + s.2) (hb : b i = s.2 <<< 26) (hd : d i = s.2 >>> 6) (q : Pair)
    (hq : q = keyed 466689008#32 2#32 (fourb (keyed 42#32 466689009#32 (turn 6 26 (turn 26 6 s))))) :
    k0_pay35 a b d i = q.2 ∧ k0_pay36 a b d i = q.1 + q.2 := by
  subst hq
  unfold k0_pay36 k0_pay35 k0_pay34 k0_pay33 k0_pay32 k0_pay31 k0_pay30 k0_pay29 k0_pay28 k0_pay27 k0_pay26 k0_pay25
  simp only [addi, xori, ori, shli, shrui, broadcast, IntOp.addi, IntOp.xori, IntOp.ori, ha, hb, hd]
  simp (disch := decide) only [shl_lit, shr_lit, fourb, keyed, turn, and_self]

/-- What the third part leaves, from the state after eight rounds. -/
theorem third_part (e f : IVec S128x8192 32) (i : S128x8192.Idx) (s q : Pair) (he : e i = s.2) (hf : f i = s.1 + s.2)
    (hq : q = turn 29 3 (turn 17 15 (keyed 0#32 45#32 (foura s)))) :
    k0_pay47 e f i = q.2 ∧ k0_pay48 e f i = q.1 + q.2 := by
  subst hq
  unfold k0_pay48 k0_pay47 k0_pay46 k0_pay45 k0_pay44 k0_pay43 k0_pay42 k0_pay41 k0_pay40 k0_pay39 k0_pay38 k0_pay37
  simp only [addi, xori, ori, shli, shrui, broadcast, IntOp.addi, IntOp.xori, IntOp.ori, he, hf]
  simp (disch := decide) only [shl_lit, shr_lit, foura, keyed, turn, and_self]

/-- What the last part leaves, from the state fourteen rounds in. -/
theorem fourth_part (g h : IVec S128x8192 32) (i : S128x8192.Idx) (s q : Pair) (hg : g i = s.2) (hh : h i = s.1 + s.2)
    (hq : q = foura (keyed 42#32 466689012#32 (turn 24 8 (turn 16 16 s)))) :
    k0_pay58 g h i = q.1 ∧ k0_pay59 g h i = q.2 := by
  subst hq
  unfold k0_pay59 k0_pay58 k0_pay57 k0_pay56 k0_pay55 k0_pay54 k0_pay53 k0_pay52 k0_pay51 k0_pay50 k0_pay49
  simp only [addi, xori, ori, shli, shrui, broadcast, IntOp.addi, IntOp.xori, IntOp.ori, hg, hh]
  simp (disch := decide) only [shl_lit, shr_lit, foura, keyed, turn, and_self]

/-- The counter of an entry, with the first key. -/
theorem start (n : BitVec 32) (r : Fin 128) (k : Fin 8192) :
    k0_pay18 (F := F) n k0_pay7 (ix2 r k)
      = (BitVec.ofNat 32 r.val * 8192#32 + BitVec.ofNat 32 k.val) + n * 128#32 * 8192#32 + 42#32 := by
  have h7 : k0_pay7 (ix2 r k) = BitVec.ofNat 32 r.val * 8192#32 + BitVec.ofNat 32 k.val := by
    unfold k0_pay7
    rw [shapeCast_self]
    simp only [addi, muli, broadcast, IntOp.addi, IntOp.muli, iota, List.foldl_cons, List.foldl_nil, Nat.zero_mul, Nat.zero_add]
    rfl
  show IntOp.addi (IntOp.addi (k0_pay7 (ix2 r k)) _) _ = _
  rw [h7]
  rfl

/-- The words of an entry of block `t`, with the last keys, are the cipher at the entry's counter. -/
theorem words_apply (t : ℕ) (r : Fin 128) (k : Fin 8192) :
    ((words (F := F) (BitVec.ofNat 32 t) k0_pay7).1 (ix2 r k) + 466689008#32) ^^^ ((words (F := F) (BitVec.ofNat 32 t) k0_pay7).2 (ix2 r k) + 5#32)
      = cipher (counter (t * 128 + r.val) k.val) := by
  have h0 := start (F := F) (BitVec.ofNat 32 t) r k
  rw [counter_block] at h0
  obtain ⟨h22, h23, h24⟩ := first_part _ _ _ _ h0
  obtain ⟨h35, h36⟩ := second_part _ _ _ _ _ h22 h23 h24 _ rfl
  obtain ⟨h47, h48⟩ := third_part _ _ _ _ _ h35 h36 rfl
  obtain ⟨h58, h59⟩ := fourth_part _ _ _ _ _ h47 h48 rfl
  unfold words
  dsimp only
  rw [h58, h59]
  rfl

end Cert.KernelIdeal.Words

end
-- ==== Proof.Maths.Spec.lean ====
/-
  The three results as functions of real encoder rows, a real codebook and a real precision, and the rows of the batch
  cut into blocks of 128.
-/
module

public import proofs.«01_k».proof.Proof.Maths.Soft
public import proofs.«01_k».proof.Proof.Maths.Consts
public import proofs.«01_k».proof.Proof.Maths.Cipher

@[expose] public section

noncomputable section

namespace Cert.Vq

section Results

variable (q : ℝ) (Z : Fin 16384 → Fin 256 → ℝ) (C : Fin 8192 → Fin 256 → ℝ)

/-- The logits of a row. -/
def logits (n : Fin 16384) (k : Fin 8192) : ℝ := logit q (Z n) (C k)

/-- The relaxed choice of a row: the softmax of the noised logits at temperature one half. -/
def choice (n : Fin 16384) (k : Fin 8192) : ℝ :=
  soft (fun j => 2 * (logits q Z C n j + noise (cipher (counter n.val j.val)))) k

/-- The quantized row. -/
def quantized (n : Fin 16384) (d : Fin 256) : ℝ := ∑ k, choice q Z C n k * C k d

/-- The sum of probability times log probability, over all rows and codes. -/
def discrete : ℝ := ∑ n, ∑ k, soft (logits q Z C n) k * lsoft (logits q Z C n) k

/-- The sum of the squared distances between rows and quantized rows. -/
def continuous : ℝ := ∑ n, ∑ d, (Z n d - quantized q Z C n d) * (Z n d - quantized q Z C n d)

/-- The first loss. -/
def loss : ℝ := discrete q Z C / 16384 + 1 / 2 * q * continuous q Z C / 16384

/-- The total probability of a code over the rows. -/
def usage (k : Fin 8192) : ℝ := ∑ n, soft (logits q Z C n) k

/-- The total probability of a code is not negative. -/
theorem usage_nonneg (k : Fin 8192) : 0 ≤ usage q Z C k := Finset.sum_nonneg fun n _ => soft_nonneg _ _

/-- The perplexity of the codes' mean probabilities. -/
def perplexity : ℝ :=
  Real.exp (-∑ k, usage q Z C k / 16384 * Real.log (usage q Z C k / 16384 + small))

end Results

/-- Row `r` of block `t`. -/
def rowAt (t : ℕ) (r : Fin 128) : Fin 16384 := ⟨(t * 128 + r.val) % 16384, Nat.mod_lt _ (by decide)⟩

/-- The number of a row, for a block of the grid. -/
theorem rowAt_val (t : ℕ) (ht : t < 128) (r : Fin 128) : (rowAt t r).val = t * 128 + r.val := by
  have := r.isLt
  exact Nat.mod_eq_of_lt (by omega)

/-- A sum over the blocks and the rows of each is the sum over all rows. -/
theorem sum_rows (f : Fin 16384 → ℝ) : ∑ t ∈ Finset.range 128, ∑ r, f (rowAt t r) = ∑ n, f n := by
  rw [Finset.sum_range, ← Fintype.sum_prod_type']
  refine Fintype.sum_equiv (finProdFinEquiv (m := 128) (n := 128)) _ _ fun x => ?_
  refine congrArg f (Fin.ext ?_)
  rw [rowAt_val _ x.1.isLt]
  show _ = x.2.val + 128 * x.1.val
  omega

end Cert.Vq

end
-- ==== Proof.Kernel.Results.lean ====
/-
  The kernel's three results over the reals: the block values summed over the points, for arguments whose entries are
  reals.
-/
module

public import proofs.«01_k».proof.Proof.Kernel.Arrays
public import proofs.«01_k».proof.Proof.Kernel.Block
public import proofs.«01_k».proof.Proof.Kernel.Words
public import proofs.«01_k».proof.Proof.Maths.Spec

@[expose] public section

set_option maxRecDepth 16384

noncomputable section

namespace Cert.KernelIdeal.Results

open Cert.KernelIdeal Cert.KernelIdeal.Gen Cert.KernelIdeal.Body Cert.KernelIdeal.Arrays Cert.KernelIdeal.Block
  Cert.KernelIdeal.Words Cert.Vq Idealize.ShloMosaic Idealize.ShloMosaic.TcCoe Idealize.SL.Sem

variable (m : (ℓ : Loc nD τ sig) → Buf (Elt Ideal) ℓ) (c : Dev nD)
  (q : ℝ) (Z : Fin 16384 → Fin 256 → ℝ) (C : Fin 8192 → Fin 256 → ℝ)

/-- The arguments' entries are reals, and the precision that the points read is. -/
structure Reals : Prop where
  prec : ∀ t, prec m c t = ((q : ℝ) : EReal)
  rows : ∀ n d, (show Vec Ideal S16384x256 .f32 from m ((c : Thread nD τ).loc main_arg0)) (ix2 n d) = ((Z n d : ℝ) : EReal)
  codes : ∀ k d, (show Vec Ideal S8192x256 .f32 from m ((c : Thread nD τ).loc main_arg2)) (ix2 k d) = ((C k d : ℝ) : EReal)

variable {m c q Z C}

/-- The entries of a block of rows. -/
theorem Reals.zblk (h : Reals m c q Z C) (t : Fin cfg0.N) (r : Fin 128) (d : Fin 256) :
    zblk m c t (ix2 r d) = ((Z (rowAt t.val r) d : ℝ) : EReal) := by
  have hN : cfg0.N = 128 := N_0
  have ht := t.isLt
  exact (zblk_apply m c t r d _ (rowAt_val t.val (by omega) r)).trans (h.rows _ _)

/-- The entries of the transposed codebook. -/
theorem Reals.cbt (h : Reals m c q Z C) (d : Fin 256) (k : Fin 8192) : cbt m c (ix2 d k) = ((C k d : ℝ) : EReal) :=
  (cbt_apply m c d k).trans (h.codes _ _)

/-- The entries of the transposed codebook after its cast. -/
theorem Reals.cbt' (h : Reals m c q Z C) (d : Fin 256) (k : Fin 8192) : k0_pay8 (Body.cbt m c) (ix2 d k) = ((C k d : ℝ) : EReal) := by
  have hc := h.cbt
  generalize Body.cbt m c = y at hc
  pointwise [k0_pay8, k0_pay4]
  exact hc d k

/-- The entries of the codebook after its cast. -/
theorem Reals.cb' (h : Reals m c q Z C) (k : Fin 8192) (d : Fin 256) : k0_pay9 (Body.cb m c) (ix2 k d) = ((C k d : ℝ) : EReal) := by
  have hc : ∀ k d, Body.cb m c (ix2 k d) = ((C k d : ℝ) : EReal) := fun k d => (cb_apply m c k d).trans (h.codes _ _)
  generalize Body.cb m c = y at hc
  pointwise [k0_pay9]
  exact hc k d

/-- The logits of a block's rows. -/
theorem Reals.logits (h : Reals m c q Z C) (t : Fin cfg0.N) (r : Fin 128) (k : Fin 8192) :
    k0_pay10 (Body.prec m c t) (Body.zblk m c t) (k0_pay8 (Body.cbt m c)) (k0_pay5 (Body.cbt m c)) (ix2 r k)
      = ((Vq.logits q Z C (rowAt t.val r) k : ℝ) : EReal) :=
  logit_apply _ _ _ _ q (fun r => Z (rowAt t.val r)) C (h.prec t) (h.zblk t) (fun k => csq_apply C (Body.cbt m c) h.cbt k) h.cbt' r k

/-- The quantized rows of a block. -/
theorem Reals.quant (h : Reals m c q Z C) (t : Fin cfg0.N) (r : Fin 128) (d : Fin 256) :
    k0_pay60 (k0_pay10 (Body.prec m c t) (Body.zblk m c t) (k0_pay8 (Body.cbt m c)) (k0_pay5 (Body.cbt m c)))
        (words (F := Ideal) (num t) k0_pay7).1 (words (F := Ideal) (num t) k0_pay7).2 466689008#32 (k0_pay9 (Body.cb m c)) (ix2 r d)
      = ((quantized q Z C (rowAt t.val r) d : ℝ) : EReal) := by
  have hN : cfg0.N = 128 := N_0
  have ht := t.isLt
  refine (quant_apply _ C _ _ (h.logits t) h.cb' _ _ r d).trans ?_
  rw [num_eq]
  simp only [words_apply]
  unfold quantized choice
  rw [rowAt_val t.val (by omega) r]

/-- The stored block. -/
theorem Reals.zq (h : Reals m c q Z C) (t : Fin cfg0.N) (r : Fin 128) (d : Fin 256) :
    (outsAt0 m c t.val t.isLt).1 (ix2 r d) = ((quantized q Z C (rowAt t.val r) d : ℝ) : EReal) := by
  rw [zq_at]
  exact h.quant t r d

/-- The running sums start from zero. -/
theorem start_sum : (Scalar.ofBits .f32 0x00000000#32 : Ideal .f32) = ((0 : ℝ) : EReal) := by
  rw [EReal.coe_zero]
  exact Ideal.ofBits_zero .f32

/-- The column sums start from zero. -/
theorem start_row (k : Fin 8192) : k0_pay6 (F := Ideal) (ix2 0 k) = ((0 : ℝ) : EReal) := by
  pointwise [k0_pay6]
  rfl

/-- The column sums after a point. -/
theorem Reals.avg (h : Reals m c q Z C) (k : Fin 8192) : ∀ (n : ℕ) (hn : n < cfg0.N), avgAt m c n hn (ix2 0 k)
    = ((∑ t ∈ Finset.range (n + 1), ∑ r, soft (Vq.logits q Z C (rowAt t r)) k : ℝ) : EReal)
  | 0, hn => (avg_apply _ _ _ _ _ (h.logits ⟨0, hn⟩) _ k 0 (start_row k)).trans
      (congrArg (fun x : ℝ => (x : EReal)) (by rw [Finset.sum_range_one, zero_add]))
  | n + 1, hn => (avg_apply _ _ _ _ _ (h.logits ⟨n + 1, hn⟩) _ k _ (Reals.avg h k n (Nat.lt_of_succ_lt hn))).trans
      (congrArg (fun x : ℝ => (x : EReal)) (Finset.sum_range_succ _ _).symm)

/-- The discrete sum after a point. -/
theorem Reals.disc (h : Reals m c q Z C) : ∀ (n : ℕ) (hn : n < cfg0.N), discAt m c n hn
    = ((∑ t ∈ Finset.range (n + 1), ∑ r, ∑ k, soft (Vq.logits q Z C (rowAt t r)) k * lsoft (Vq.logits q Z C (rowAt t r)) k : ℝ) : EReal)
  | 0, hn => by
    show discStep _ _ _ _ (Scalar.ofBits .f32 0x00000000#32) = _
    rw [start_sum]
    exact (disc_apply _ _ _ _ _ (h.logits ⟨0, hn⟩) 0).trans
      (congrArg (fun x : ℝ => (x : EReal)) (by rw [Finset.sum_range_one, zero_add]))
  | n + 1, hn => by
    show discStep _ _ _ _ (discAt m c n (Nat.lt_of_succ_lt hn)) = _
    rw [Reals.disc h n (Nat.lt_of_succ_lt hn)]
    exact (disc_apply _ _ _ _ _ (h.logits ⟨n + 1, hn⟩) _).trans
      (congrArg (fun x : ℝ => (x : EReal)) (Finset.sum_range_succ _ _).symm)

/-- The squared-distance sum after a point. -/
theorem Reals.cont (h : Reals m c q Z C) : ∀ (n : ℕ) (hn : n < cfg0.N), contAt m c n hn
    = ((∑ t ∈ Finset.range (n + 1), ∑ r, ∑ d, (Z (rowAt t r) d - quantized q Z C (rowAt t r) d) * (Z (rowAt t r) d - quantized q Z C (rowAt t r) d) : ℝ) : EReal)
  | 0, hn => by
    show contStep _ _ _ _ _ _ _ (Scalar.ofBits .f32 0x00000000#32) = _
    rw [start_sum]
    exact (cont_apply _ _ _ _ _ _ _ (h.zblk ⟨0, hn⟩) (h.quant ⟨0, hn⟩) 0).trans
      (congrArg (fun x : ℝ => (x : EReal)) (by rw [Finset.sum_range_one, zero_add]))
  | n + 1, hn => by
    show contStep _ _ _ _ _ _ _ (contAt m c n (Nat.lt_of_succ_lt hn)) = _
    rw [Reals.cont h n (Nat.lt_of_succ_lt hn)]
    exact (cont_apply _ _ _ _ _ _ _ (h.zblk ⟨n + 1, hn⟩) (h.quant ⟨n + 1, hn⟩) _).trans
      (congrArg (fun x : ℝ => (x : EReal)) (Finset.sum_range_succ _ _).symm)

/-- The quantized rows after the run. -/
theorem Reals.result0 (h : Reals m c q Z C) : (dats m 0 c).arrAt 4 cfg0.N
    = (fun i => ((quantized q Z C (i 0) (i 1) : ℝ) : EReal) : Vec Ideal S16384x256 .f32) := by
  have hN : cfg0.N = 128 := N_0
  refine final4 m c _ fun t r d n hn => ?_
  have ht := t.isLt
  have e : rowAt t.val r = n := Fin.ext ((rowAt_val t.val (by omega) r).trans hn.symm)
  rw [h.zq t r d, e]
  rfl

/-- The loss after the run. -/
theorem Reals.result1 (h : Reals m c q Z C) : (dats m 0 c).arrAt 5 cfg0.N
    = (fun _ => ((loss q Z C : ℝ) : EReal) : Vec Ideal S1 .f32) := by
  refine (final5 m c _ (loss_at m c)).trans ?_
  rw [h.prec, h.disc, h.cont, loss_apply]
  unfold loss discrete continuous
  rw [sum_rows (fun n => ∑ k, soft (Vq.logits q Z C n) k * lsoft (Vq.logits q Z C n) k),
    sum_rows (fun n => ∑ d, (Z n d - quantized q Z C n d) * (Z n d - quantized q Z C n d))]

/-- The perplexity after the run. -/
theorem Reals.result2 (h : Reals m c q Z C) : (dats m 0 c).arrAt 6 cfg0.N
    = (fun _ => ((perplexity q Z C : ℝ) : EReal) : Vec Ideal S1 .f32) := by
  refine (final6 m c _ (perp_at m c)).trans ?_
  rw [perp_apply (avgAt m c 127 last.isLt) (usage q Z C) (usage_nonneg q Z C) fun k => ?_]
  · rfl
  · rw [h.avg k 127 last.isLt, sum_rows (fun n => soft (Vq.logits q Z C n) k)]
    rfl

end Cert.KernelIdeal.Results

end
-- ==== Proof.Reference.Precision.lean ====
/-
  The reference's precision: the scalar that it computes from the parameter.
-/
module

public import proofs.«01_k».proof.Proof.Gen.ReferenceIdeal.Read
public import proofs.«01_k».proof.Proof.Maths.Consts
public import Idealize.ShloMosaic.Lib.Pointwise

@[expose] public section

set_option maxRecDepth 16384

noncomputable section

namespace Cert.ReferenceIdeal.Value

open Cert.ReferenceIdeal Cert.ReferenceIdeal.Gen Cert.ReferenceIdeal.Read Cert.Vq Idealize.ShloMosaic Idealize.ShloMosaic.TcCoe

/-- The precision from the parameter, over the extended reals. -/
theorem precision_apply (x1 : (⟨S1, .f32⟩ : BufTy).Contents (Elt Ideal)) :
    val_main_v2 (F := Ideal) x1 (ix1 0) = Ideal.div 1 (max ((tiny : ℝ) : EReal) (x1 (ix1 0))) := by
  rw [← word_tiny, ← EReal.coe_one, ← word_one]
  rfl

end Cert.ReferenceIdeal.Value

end
-- ==== Proof.Reference.Logits.lean ====
/-
  The reference's logits, their softmax and their log-softmax at an index, for arguments whose entries are reals.
-/
module

public import proofs.«01_k».proof.Proof.Gen.ReferenceIdeal.Read
public import proofs.«01_k».proof.Proof.Maths.Spec
public import Idealize.ShloMosaic.Lib.Pointwise
public import Idealize.ShloMosaic.Lib.KernelVsHost

@[expose] public section

set_option maxRecDepth 16384

noncomputable section

namespace Cert.ReferenceIdeal.Value

open Cert.ReferenceIdeal Cert.ReferenceIdeal.Gen Cert.ReferenceIdeal.Read Cert.Vq Idealize.ShloMosaic Idealize.ShloMosaic.TcCoe

variable (x0 : (⟨S16384x256, .f32⟩ : BufTy).Contents (Elt Ideal)) (x1 : (⟨S1, .f32⟩ : BufTy).Contents (Elt Ideal))
  (x2 : (⟨S8192x256, .f32⟩ : BufTy).Contents (Elt Ideal))
  (q : ℝ) (Z : Fin 16384 → Fin 256 → ℝ) (C : Fin 8192 → Fin 256 → ℝ)

/-- The host's row maximum, from −∞, of a matrix of reals is some real. -/
theorem exists_row_max (l : FVec Ideal S16384x8192 .f32) (L : Fin 8192 → ℝ) (n : Fin 16384)
    (hl : ∀ k, l (ix2 n k) = ((L k : ℝ) : EReal)) : ∃ M : ℝ,
    Host.reduce FloatOps.maximumf l (constant S_ .f32 0xFF800000#32) reducesTo_S16384x8192_S16384_d1 h_S_ (ix1 n) = ((M : ℝ) : EReal) := by
  obtain ⟨M, hM⟩ := exists_fold_max L
  refine ⟨M, ?_⟩
  rw [hostReduce_maximumf_eq_multiReduction l 0xFF800000#32 reducesTo_S16384x8192_S16384_d1 h_S_ (by decide) (.inl rfl) rfl]
  pointwise []
  simp only [hl, word_neg_inf, hM]

/-- The maximum with −∞ changes nothing. -/
theorem max_neg_inf (u : FVec Ideal S16384 .f32) (w : FVec Ideal S_ .f32) (hw : w = constant S_ .f32 0xFF800000#32) (i : S16384.Idx) :
    maximumf (broadcastInDim S16384 ![] bcast_S_S16384 w) u i = u i := by
  subst hw
  pointwise []
  rw [word_neg_inf]
  exact max_eq_right bot_le

/-- The arguments' entries are reals, and the precision. -/
structure Reals : Prop where
  prec : val_main_v2 x1 (ix1 0) = ((q : ℝ) : EReal)
  rows : ∀ n d, x0 (ix2 n d) = ((Z n d : ℝ) : EReal)
  codes : ∀ k d, x2 (ix2 k d) = ((C k d : ℝ) : EReal)

variable {x0 x1 x2 q Z C}

/-- The squared norms of the rows. -/
theorem Reals.rowNorm (h : Reals x0 x1 x2 q Z C) (n : Fin 16384) (k : Fin 8192) :
    val_main_v9 x0 (ix2 n k) = ((∑ d, Z n d * Z n d : ℝ) : EReal) := by
  pointwise [val_main_v9, val_main_v5, val_main_v4, val_main_v3, val_main_cst_1]
  simp only [h.rows, ← EReal.coe_mul, coe_sum]

/-- The squared norms of the codes. -/
theorem Reals.codeNorm (h : Reals x0 x1 x2 q Z C) (n : Fin 16384) (k : Fin 8192) :
    val_main_v10 x2 (ix2 n k) = ((∑ d, C k d * C k d : ℝ) : EReal) := by
  pointwise [val_main_v10, val_main_v8, val_main_v7, val_main_v6, val_main_cst_2]
  simp only [h.codes, ← EReal.coe_mul, coe_sum]

/-- The products of rows and codes. -/
theorem Reals.product (h : Reals x0 x1 x2 q Z C) (n : Fin 16384) (k : Fin 8192) :
    val_main_v13 x0 x2 (ix2 n k) = ((∑ d, Z n d * C k d : ℝ) : EReal) := by
  pointwise [val_main_v13, val_main_v12]
  simp only [h.rows, h.codes, ← EReal.coe_mul, coe_sum]

/-- The factor of the distances. -/
theorem Reals.factor (h : Reals x0 x1 x2 q Z C) (n : Fin 16384) (k : Fin 8192) :
    val_main_v21 x1 (ix2 n k) = ((-(1 / 2 * q) : ℝ) : EReal) := by
  have hp := h.prec
  unfold val_main_v21 val_main_v20 val_main_v19 val_main_v18
  generalize val_main_v2 x1 = p at hp
  pointwise [val_main_v17, val_main_cst_4]
  rw [hp, word_half, ← EReal.coe_mul, ← EReal.coe_neg]

/-- The logits. -/
theorem Reals.logits (h : Reals x0 x1 x2 q Z C) (n : Fin 16384) (k : Fin 8192) :
    val_main_v22 x0 x1 x2 (ix2 n k) = ((Vq.logits q Z C n k : ℝ) : EReal) := by
  have h21 := h.factor n k
  have h13 := h.product n k
  have h9 := h.rowNorm n k
  have h10 := h.codeNorm n k
  unfold val_main_v22 val_main_v16 val_main_v15 val_main_v11
  generalize val_main_v21 x1 = a at h21
  generalize val_main_v13 x0 x2 = b at h13
  generalize val_main_v9 x0 = e at h9
  generalize val_main_v10 x2 = f at h10
  pointwise [val_main_v14, val_main_cst_3]
  rw [h21, h13, h9, h10, word_two, ← EReal.coe_mul, ← EReal.coe_add, ← EReal.coe_sub, ← EReal.coe_mul]
  rfl

/-- The row maxima that the softmax subtracts are some reals. -/
theorem Reals.max1 (h : Reals x0 x1 x2 q Z C) (n : Fin 16384) : ∃ M : ℝ, val_main_v25 x0 x1 x2 (ix1 n) = ((M : ℝ) : EReal) := by
  obtain ⟨M, hM⟩ := exists_row_max (val_main_v22 x0 x1 x2) _ n (h.logits n)
  exact ⟨M, (max_neg_inf (val_main_v23 x0 x1 x2) _ rfl _).trans hM⟩

/-- The softmax of the logits. -/
theorem Reals.probs (h : Reals x0 x1 x2 q Z C) (n : Fin 16384) (k : Fin 8192) :
    val_main_v33 x0 x1 x2 (ix2 n k) = ((soft (Vq.logits q Z C n) k : ℝ) : EReal) := by
  obtain ⟨M, hM⟩ := h.max1 n
  have hl := h.logits n
  unfold val_main_v33 val_main_v32 val_main_v31 val_main_v30 val_main_v29 val_main_v28 val_main_v27 val_main_v26
  generalize val_main_v25 x0 x1 x2 = u at hM
  generalize val_main_v22 x0 x1 x2 = l at hl
  pointwise [val_main_cst_7]
  simp only [hl, hM]
  exact soft_div _ M k

/-- The row maxima that the log-softmax subtracts are some reals. -/
theorem Reals.max2 (h : Reals x0 x1 x2 q Z C) (n : Fin 16384) : ∃ M : ℝ, val_main_call1_v2 x0 x1 x2 (ix1 n) = ((M : ℝ) : EReal) := by
  obtain ⟨M, hM⟩ := exists_row_max (val_main_v22 x0 x1 x2) _ n (h.logits n)
  exact ⟨M, (max_neg_inf (val_main_call1_v0 x0 x1 x2) _ rfl _).trans hM⟩

/-- The log-softmax of the logits. -/
theorem Reals.logProbs (h : Reals x0 x1 x2 q Z C) (n : Fin 16384) (k : Fin 8192) :
    val_main_v34 x0 x1 x2 (ix2 n k) = ((lsoft (Vq.logits q Z C n) k : ℝ) : EReal) := by
  obtain ⟨M, hM⟩ := h.max2 n
  have hl := h.logits n
  unfold val_main_v34 val_main_call1_v10 val_main_call1_v9 val_main_call1_v8 val_main_call1_v7 val_main_call1_v6 val_main_call1_v5
    val_main_call1_v4 val_main_call1_v3
  generalize val_main_call1_v2 x0 x1 x2 = u at hM
  generalize val_main_v22 x0 x1 x2 = l at hl
  pointwise [val_main_call1_cst_1]
  simp only [hl, hM]
  exact lsoft_log _ M k

end Cert.ReferenceIdeal.Value

end
-- ==== Proof.Reference.Draw.lean ====
/-
  The words that the reference draws: each entry's word is the cipher at the entry's counter.
-/
module

public import proofs.«01_k».proof.Proof.Gen.ReferenceIdeal.Read
public import proofs.«01_k».proof.Proof.Maths.Cipher
public import Idealize.ShloMosaic.Lib.Pointwise

@[expose] public section

set_option maxRecDepth 16384

noncomputable section

namespace Cert.ReferenceIdeal.Draw

open Cert.ReferenceIdeal Cert.ReferenceIdeal.Gen Cert.ReferenceIdeal.Read Cert.Vq Idealize.ShloMosaic Idealize.ShloMosaic.TcCoe

/-- The counter of an entry with the first key, and the first word of the state. -/
theorem start (n : Fin 16384) (k : Fin 8192) :
    val_main_v42 (F := Ideal) (ix2 n k) = 0#32 ∧ val_main_v44 (F := Ideal) (ix2 n k) = counter n.val k.val + 42#32 := by
  simp only [val_main_v35_apply, val_main_c_apply, val_main_v36_apply, val_main_v37_apply, val_main_v38_apply, val_main_v39_apply,
    val_main_v40_apply, val_main_v41_apply, val_main_v42_apply, val_main_v43_apply, val_main_v44_apply,
    IntOp.addi, IntOp.muli]
  simp only [val_main_c, val_main_c_8, val_main_c_9, val_main_c_10, constantI, BitVec.add_zero]
  exact ⟨trivial, rfl⟩

/-- The state after the first four rounds. -/
theorem one (i : S16384x8192.Idx) (s : Pair) (h0 : val_main_v42 (F := Ideal) i = s.1) (h1 : val_main_v44 (F := Ideal) i = s.2) :
    val_main_v66 (F := Ideal) i = (foura s).1 ∧ val_main_v72 (F := Ideal) i = (foura s).2 := by
  simp only [
    val_main_v45_apply, val_main_v46_apply, val_main_v47_apply, val_main_v48_apply, val_main_v49_apply, val_main_v50_apply,
    val_main_v51_apply, val_main_v52_apply, val_main_v53_apply, val_main_v54_apply, val_main_v55_apply, val_main_v56_apply,
    val_main_v57_apply, val_main_v58_apply, val_main_v59_apply, val_main_v60_apply, val_main_v61_apply, val_main_v62_apply,
    val_main_v63_apply, val_main_v64_apply, val_main_v65_apply, val_main_v66_apply, val_main_v67_apply, val_main_v68_apply,
    val_main_v69_apply, val_main_v70_apply, val_main_v71_apply, val_main_v72_apply,
    IntOp.addi, IntOp.xori, IntOp.ori, h0, h1]
  simp only [
    val_main_c_11, val_main_c_12, val_main_c_13, val_main_c_14, val_main_c_15, val_main_c_16, val_main_c_17, val_main_c_18, constantI]
  simp (disch := decide) only [shl_lit, shr_lit, foura, turn, and_self]

/-- The state after the second four rounds. -/
theorem two (i : S16384x8192.Idx) (s : Pair) (h0 : val_main_v74 (F := Ideal) i = s.1) (h1 : val_main_v76 (F := Ideal) i = s.2) :
    val_main_v98 (F := Ideal) i = (fourb s).1 ∧ val_main_v104 (F := Ideal) i = (fourb s).2 := by
  simp only [
    val_main_v77_apply, val_main_v78_apply, val_main_v79_apply, val_main_v80_apply, val_main_v81_apply, val_main_v82_apply,
    val_main_v83_apply, val_main_v84_apply, val_main_v85_apply, val_main_v86_apply, val_main_v87_apply, val_main_v88_apply,
    val_main_v89_apply, val_main_v90_apply, val_main_v91_apply, val_main_v92_apply, val_main_v93_apply, val_main_v94_apply,
    val_main_v95_apply, val_main_v96_apply, val_main_v97_apply, val_main_v98_apply, val_main_v99_apply, val_main_v100_apply,
    val_main_v101_apply, val_main_v102_apply, val_main_v103_apply, val_main_v104_apply,
    IntOp.addi, IntOp.xori, IntOp.ori, h0, h1]
  simp only [
    val_main_c_21, val_main_c_22, val_main_c_23, val_main_c_24, val_main_c_25, val_main_c_26, val_main_c_27, val_main_c_28, constantI]
  simp (disch := decide) only [shl_lit, shr_lit, fourb, turn, and_self]

/-- The state after the third four rounds. -/
theorem three (i : S16384x8192.Idx) (s : Pair) (h0 : val_main_v106 (F := Ideal) i = s.1) (h1 : val_main_v108 (F := Ideal) i = s.2) :
    val_main_v130 (F := Ideal) i = (foura s).1 ∧ val_main_v136 (F := Ideal) i = (foura s).2 := by
  simp only [
    val_main_v109_apply, val_main_v110_apply, val_main_v111_apply, val_main_v112_apply, val_main_v113_apply, val_main_v114_apply,
    val_main_v115_apply, val_main_v116_apply, val_main_v117_apply, val_main_v118_apply, val_main_v119_apply, val_main_v120_apply,
    val_main_v121_apply, val_main_v122_apply, val_main_v123_apply, val_main_v124_apply, val_main_v125_apply, val_main_v126_apply,
    val_main_v127_apply, val_main_v128_apply, val_main_v129_apply, val_main_v130_apply, val_main_v131_apply, val_main_v132_apply,
    val_main_v133_apply, val_main_v134_apply, val_main_v135_apply, val_main_v136_apply,
    IntOp.addi, IntOp.xori, IntOp.ori, h0, h1]
  simp only [
    val_main_c_31, val_main_c_32, val_main_c_33, val_main_c_34, val_main_c_35, val_main_c_36, val_main_c_37, val_main_c_38, constantI]
  simp (disch := decide) only [shl_lit, shr_lit, foura, turn, and_self]

/-- The state after the fourth four rounds. -/
theorem four (i : S16384x8192.Idx) (s : Pair) (h0 : val_main_v138 (F := Ideal) i = s.1) (h1 : val_main_v140 (F := Ideal) i = s.2) :
    val_main_v162 (F := Ideal) i = (fourb s).1 ∧ val_main_v168 (F := Ideal) i = (fourb s).2 := by
  simp only [
    val_main_v141_apply, val_main_v142_apply, val_main_v143_apply, val_main_v144_apply, val_main_v145_apply, val_main_v146_apply,
    val_main_v147_apply, val_main_v148_apply, val_main_v149_apply, val_main_v150_apply, val_main_v151_apply, val_main_v152_apply,
    val_main_v153_apply, val_main_v154_apply, val_main_v155_apply, val_main_v156_apply, val_main_v157_apply, val_main_v158_apply,
    val_main_v159_apply, val_main_v160_apply, val_main_v161_apply, val_main_v162_apply, val_main_v163_apply, val_main_v164_apply,
    val_main_v165_apply, val_main_v166_apply, val_main_v167_apply, val_main_v168_apply,
    IntOp.addi, IntOp.xori, IntOp.ori, h0, h1]
  simp only [
    val_main_c_41, val_main_c_42, val_main_c_43, val_main_c_44, val_main_c_45, val_main_c_46, val_main_c_47, val_main_c_48, constantI]
  simp (disch := decide) only [shl_lit, shr_lit, fourb, turn, and_self]

/-- The state after the last four rounds. -/
theorem five (i : S16384x8192.Idx) (s : Pair) (h0 : val_main_v170 (F := Ideal) i = s.1) (h1 : val_main_v172 (F := Ideal) i = s.2) :
    val_main_v194 (F := Ideal) i = (foura s).1 ∧ val_main_v200 (F := Ideal) i = (foura s).2 := by
  simp only [
    val_main_v173_apply, val_main_v174_apply, val_main_v175_apply, val_main_v176_apply, val_main_v177_apply, val_main_v178_apply,
    val_main_v179_apply, val_main_v180_apply, val_main_v181_apply, val_main_v182_apply, val_main_v183_apply, val_main_v184_apply,
    val_main_v185_apply, val_main_v186_apply, val_main_v187_apply, val_main_v188_apply, val_main_v189_apply, val_main_v190_apply,
    val_main_v191_apply, val_main_v192_apply, val_main_v193_apply, val_main_v194_apply, val_main_v195_apply, val_main_v196_apply,
    val_main_v197_apply, val_main_v198_apply, val_main_v199_apply, val_main_v200_apply,
    IntOp.addi, IntOp.xori, IntOp.ori, h0, h1]
  simp only [
    val_main_c_51, val_main_c_52, val_main_c_53, val_main_c_54, val_main_c_55, val_main_c_56, val_main_c_57, val_main_c_58, constantI]
  simp (disch := decide) only [shl_lit, shr_lit, foura, turn, and_self]

/-- The keys added after that. -/
theorem keys_one (i : S16384x8192.Idx) (s : Pair) (h0 : val_main_v66 (F := Ideal) i = s.1) (h1 : val_main_v72 (F := Ideal) i = s.2) :
    val_main_v74 (F := Ideal) i = (keyed 42#32 466689009#32 s).1 ∧ val_main_v76 (F := Ideal) i = (keyed 42#32 466689009#32 s).2 := by
  simp only [
    val_main_v73_apply, val_main_v74_apply, val_main_v75_apply, val_main_v76_apply, IntOp.addi, h0, h1]
  exact ⟨rfl, rfl⟩

/-- The keys added after that. -/
theorem keys_two (i : S16384x8192.Idx) (s : Pair) (h0 : val_main_v98 (F := Ideal) i = s.1) (h1 : val_main_v104 (F := Ideal) i = s.2) :
    val_main_v106 (F := Ideal) i = (keyed 466689008#32 2#32 s).1 ∧ val_main_v108 (F := Ideal) i = (keyed 466689008#32 2#32 s).2 := by
  simp only [
    val_main_v105_apply, val_main_v106_apply, val_main_v107_apply, val_main_v108_apply, IntOp.addi, h0, h1]
  exact ⟨rfl, rfl⟩

/-- The keys added after that. -/
theorem keys_three (i : S16384x8192.Idx) (s : Pair) (h0 : val_main_v130 (F := Ideal) i = s.1) (h1 : val_main_v136 (F := Ideal) i = s.2) :
    val_main_v138 (F := Ideal) i = (keyed 0#32 45#32 s).1 ∧ val_main_v140 (F := Ideal) i = (keyed 0#32 45#32 s).2 := by
  simp only [
    val_main_v137_apply, val_main_v138_apply, val_main_v139_apply, val_main_v140_apply, IntOp.addi, h0, h1]
  exact ⟨rfl, rfl⟩

/-- The keys added after that. -/
theorem keys_four (i : S16384x8192.Idx) (s : Pair) (h0 : val_main_v162 (F := Ideal) i = s.1) (h1 : val_main_v168 (F := Ideal) i = s.2) :
    val_main_v170 (F := Ideal) i = (keyed 42#32 466689012#32 s).1 ∧ val_main_v172 (F := Ideal) i = (keyed 42#32 466689012#32 s).2 := by
  simp only [
    val_main_v169_apply, val_main_v170_apply, val_main_v171_apply, val_main_v172_apply, IntOp.addi, h0, h1]
  exact ⟨rfl, rfl⟩

/-- The word of an entry is the cipher at its counter. -/
theorem word_apply (n : Fin 16384) (k : Fin 8192) : val_main_v205 (F := Ideal) (ix2 n k) = cipher (counter n.val k.val) := by
  obtain ⟨a0, b0⟩ := start n k
  obtain ⟨a1, b1⟩ := one (ix2 n k) (0#32, counter n.val k.val + 42#32) a0 b0
  obtain ⟨a2, b2⟩ := keys_one _ _ a1 b1
  obtain ⟨a3, b3⟩ := two _ _ a2 b2
  obtain ⟨a4, b4⟩ := keys_two _ _ a3 b3
  obtain ⟨a5, b5⟩ := three _ _ a4 b4
  obtain ⟨a6, b6⟩ := keys_three _ _ a5 b5
  obtain ⟨a7, b7⟩ := four _ _ a6 b6
  obtain ⟨a8, b8⟩ := keys_four _ _ a7 b7
  obtain ⟨a9, b9⟩ := five _ _ a8 b8
  simp only [
    val_main_v201_apply, val_main_v202_apply, val_main_v203_apply, val_main_v204_apply, val_main_v205_apply, IntOp.addi, IntOp.xori, a9, b9]
  rfl

end Cert.ReferenceIdeal.Draw

end
-- ==== Proof.Reference.Choice.lean ====
/-
  The reference's noise, relaxed choice and quantized rows at an index, for arguments whose entries are reals.
-/
module

public import proofs.«01_k».proof.Proof.Reference.Logits
public import proofs.«01_k».proof.Proof.Reference.Draw

@[expose] public section

set_option maxRecDepth 16384

noncomputable section

namespace Cert.ReferenceIdeal.Value

open Cert.ReferenceIdeal Cert.ReferenceIdeal.Gen Cert.ReferenceIdeal.Read Cert.ReferenceIdeal.Draw Cert.Vq Idealize.ShloMosaic
  Idealize.ShloMosaic.TcCoe

variable {x0 : (⟨S16384x256, .f32⟩ : BufTy).Contents (Elt Ideal)} {x1 : (⟨S1, .f32⟩ : BufTy).Contents (Elt Ideal)}
  {x2 : (⟨S8192x256, .f32⟩ : BufTy).Contents (Elt Ideal)}
  {q : ℝ} {Z : Fin 16384 → Fin 256 → ℝ} {C : Fin 8192 → Fin 256 → ℝ}

/-- The word that the draw is read from: the mixed words' high bits under the exponent of one. -/
theorem drawn_apply (n : Fin 16384) (k : Fin 8192) :
    val_main_v209 (F := Ideal) (ix2 n k) = drawWord (cipher (counter n.val k.val)) := by
  simp only [val_main_v209_apply, val_main_v207_apply, val_main_v208_apply, val_main_v206_apply, val_main_c_61, val_main_c_62, constantI,
    word_apply, IntOp.ori]
  simp (disch := decide) only [shr_lit, drawWord]

/-- A negated logarithm at an index. -/
theorem neg_log (v : FVec Ideal S16384x8192 .f32) (i : S16384x8192.Idx) : Host.negf (Host.log v) i = -Ideal.log (v i) := rfl

/-- A constant added at an index. -/
theorem add_word (v : FVec Ideal S16384x8192 .f32) (b : BitVec 32) (i : S16384x8192.Idx) :
    addf v (broadcastInDim S16384x8192 ![] bcast_S_S16384x8192 (constant S_ .f32 b)) i = v i + Ideal.ofBits .f32 b := rfl

/-- A constant subtracted at an index. -/
theorem sub_word (v : FVec Ideal S16384x8192 .f32) (b : BitVec 32) (i : S16384x8192.Idx) :
    subf v (broadcastInDim S16384x8192 ![] bcast_S_S16384x8192 (constant S_ .f32 b)) i = v i - Ideal.ofBits .f32 b := rfl

/-- Words read as floats at an index. -/
theorem cast_word (w : IVec S16384x8192 32) (i : S16384x8192.Idx) :
    bitcastToFloat (F := Ideal) .f32 w i = Ideal.ofBits .f32 (w i) := rfl

/-- The noise, from the word of its draw. -/
theorem noise_word (i : S16384x8192.Idx) : val_main_v220 (F := Ideal) i
    = -Ideal.log (-Ideal.log (Ideal.ofBits .f32 (val_main_v209 (F := Ideal) i) - 1 + ((tiny : ℝ) : EReal)) + ((tiny : ℝ) : EReal)) := by
  unfold val_main_v220 val_main_v219 val_main_v218 val_main_v217 val_main_v216 val_main_v215 val_main_v214 val_main_v213 val_main_v212
    val_main_v211 val_main_v210 val_main_cst_63 val_main_cst_64 val_main_cst_65
  generalize val_main_v209 (F := Ideal) = w
  rw [neg_log, add_word, neg_log, add_word, sub_word, cast_word]
  generalize Ideal.ofBits .f32 (w i) = u
  rw [word_tiny, word_one, EReal.coe_one]

/-- The noise of an entry. -/
theorem noise_apply (n : Fin 16384) (k : Fin 8192) :
    val_main_v220 (F := Ideal) (ix2 n k) = ((noise (cipher (counter n.val k.val)) : ℝ) : EReal) := by
  rw [noise_word, drawn_apply]
  exact noise_reference _

/-- The noised logits over the temperature. -/
theorem Reals.noised (h : Reals x0 x1 x2 q Z C) (n : Fin 16384) (k : Fin 8192) : val_main_v223 x0 x1 x2 (ix2 n k)
    = ((2 * (Vq.logits q Z C n k + noise (cipher (counter n.val k.val))) : ℝ) : EReal) := by
  have h1 := h.logits n k
  have h2 := noise_apply n k
  unfold val_main_v223 val_main_v221
  generalize val_main_v22 x0 x1 x2 = l at h1
  generalize val_main_v220 (F := Ideal) = g at h2
  pointwise [val_main_v222, val_main_cst_66]
  rw [h1, h2, word_half, ← EReal.coe_add, div_coe _ _ (by norm_num)]
  exact congrArg (fun x : ℝ => (x : EReal)) (by ring)

/-- The row maxima that the relaxed choice subtracts are some reals. -/
theorem Reals.max3 (h : Reals x0 x1 x2 q Z C) (n : Fin 16384) : ∃ M : ℝ, val_main_v226 x0 x1 x2 (ix1 n) = ((M : ℝ) : EReal) := by
  obtain ⟨M, hM⟩ := exists_row_max (val_main_v223 x0 x1 x2) _ n (h.noised n)
  exact ⟨M, (max_neg_inf (val_main_v224 x0 x1 x2) _ rfl _).trans hM⟩

/-- The relaxed choice. -/
theorem Reals.choice (h : Reals x0 x1 x2 q Z C) (n : Fin 16384) (k : Fin 8192) :
    val_main_v234 x0 x1 x2 (ix2 n k) = ((Vq.choice q Z C n k : ℝ) : EReal) := by
  obtain ⟨M, hM⟩ := h.max3 n
  have hl := h.noised n
  unfold val_main_v234 val_main_v233 val_main_v232 val_main_v231 val_main_v230 val_main_v229 val_main_v228 val_main_v227
  generalize val_main_v226 x0 x1 x2 = u at hM
  generalize val_main_v223 x0 x1 x2 = l at hl
  pointwise [val_main_cst_69]
  simp only [hl, hM]
  exact soft_div (fun j => 2 * (Vq.logits q Z C n j + noise (cipher (counter n.val j.val)))) M k

/-- The quantized rows. -/
theorem Reals.quantized (h : Reals x0 x1 x2 q Z C) (n : Fin 16384) (d : Fin 256) :
    val_main_v235 x0 x1 x2 (ix2 n d) = ((Vq.quantized q Z C n d : ℝ) : EReal) := by
  have hl := h.choice n
  have hc := h.codes
  unfold val_main_v235
  generalize val_main_v234 x0 x1 x2 = l at hl
  pointwise []
  simp only [hl, hc, ← EReal.coe_mul, coe_sum]
  rfl

end Cert.ReferenceIdeal.Value

end
-- ==== Proof.Reference.Results.lean ====
/-
  The reference's three results, for arguments whose entries are reals.
-/
module

public import proofs.«01_k».proof.Proof.Reference.Choice

@[expose] public section

set_option maxRecDepth 16384

noncomputable section

namespace Cert.ReferenceIdeal.Value

open Cert.ReferenceIdeal Cert.ReferenceIdeal.Gen Cert.ReferenceIdeal.Read Cert.Vq Idealize.ShloMosaic Idealize.ShloMosaic.TcCoe

variable {x0 : (⟨S16384x256, .f32⟩ : BufTy).Contents (Elt Ideal)} {x1 : (⟨S1, .f32⟩ : BufTy).Contents (Elt Ideal)}
  {x2 : (⟨S8192x256, .f32⟩ : BufTy).Contents (Elt Ideal)}
  {q : ℝ} {Z : Fin 16384 → Fin 256 → ℝ} {C : Fin 8192 → Fin 256 → ℝ}

/-- The mean usage of a code. -/
theorem Reals.usage (h : Reals x0 x1 x2 q Z C) (k : Fin 8192) :
    val_main_v238 x0 x1 x2 (ix1 k) = ((Vq.usage q Z C k / 16384 : ℝ) : EReal) := by
  have hp := h.probs
  unfold val_main_v238 val_main_v236
  generalize val_main_v33 x0 x1 x2 = l at hp
  pointwise [val_main_v237, val_main_cst_70, val_main_cst_71]
  simp only [hp, coe_sum, word_rows]
  exact div_coe _ _ (by norm_num)

/-- The perplexity. -/
theorem Reals.perplexity (h : Reals x0 x1 x2 q Z C) (i : S_.Idx) :
    val_main_v259 x0 x1 x2 i = ((Vq.perplexity q Z C : ℝ) : EReal) := by
  have hu := h.usage
  have hl : ∀ k, Ideal.log ((Vq.usage q Z C k / 16384 + small : ℝ) : EReal)
      = ((Real.log (Vq.usage q Z C k / 16384 + small) : ℝ) : EReal) := fun k =>
    log_coe _ (add_pos_of_nonneg_of_pos (div_nonneg (usage_nonneg q Z C k) (by norm_num)) small_pos)
  unfold val_main_v259 val_main_v258 val_main_v257 val_main_v256 val_main_v255 val_main_v254
  generalize val_main_v238 x0 x1 x2 = l at hu
  pointwise [val_main_v253, val_main_cst_78, val_main_cst_79]
  simp only [hu, word_small, ← EReal.coe_add, hl, ← EReal.coe_mul, coe_sum, ← EReal.coe_neg, exp_coe]
  rfl

/-- The discrete part of the loss, before its division. -/
theorem Reals.discrete (h : Reals x0 x1 x2 q Z C) (i : S_.Idx) :
    val_main_v240 x0 x1 x2 i = ((Vq.discrete q Z C : ℝ) : EReal) := by
  have hp := h.probs
  have hl := h.logProbs
  unfold val_main_v240 val_main_v239
  generalize val_main_v33 x0 x1 x2 = p at hp
  generalize val_main_v34 x0 x1 x2 = l at hl
  pointwise [val_main_cst_72]
  simp only [hp, hl, ← EReal.coe_mul, coe_sum]
  rfl

/-- Half the precision, at every entry. -/
theorem Reals.weight (h : Reals x0 x1 x2 q Z C) (n : Fin 16384) (d : Fin 256) :
    val_main_v247 (F := Ideal) x1 (ix2 n d) = ((1 / 2 * q : ℝ) : EReal) := by
  have hq := h.prec
  unfold val_main_v247 val_main_v246 val_main_v245
  generalize val_main_v2 (F := Ideal) x1 = p at hq
  pointwise [val_main_v244, val_main_cst_74]
  rw [hq, word_half, ← EReal.coe_mul]

/-- The squared distances of a row under the precision's weight. -/
theorem Reals.distance (h : Reals x0 x1 x2 q Z C) (n : Fin 16384) : val_main_v249 x0 x1 x2 (ix1 n)
    = ((∑ d, (Z n d - Vq.quantized q Z C n d) * (Z n d - Vq.quantized q Z C n d) * (1 / 2 * q) : ℝ) : EReal) := by
  have hx := h.rows
  have hq := h.quantized
  have hw := h.weight
  unfold val_main_v249 val_main_v248 val_main_v243 val_main_v242
  generalize val_main_v235 x0 x1 x2 = e at hq
  generalize val_main_v247 (F := Ideal) x1 = w at hw
  pointwise [val_main_cst_75]
  simp only [hx, hq, hw, ← EReal.coe_sub, ← EReal.coe_mul, coe_sum]

/-- The loss. -/
theorem Reals.loss (h : Reals x0 x1 x2 q Z C) (i : S_.Idx) :
    val_main_v252 x0 x1 x2 i = ((Vq.loss q Z C : ℝ) : EReal) := by
  have hd := h.distance
  have hs := h.discrete
  unfold val_main_v252 val_main_v251 val_main_v250 val_main_v241
  generalize val_main_v249 x0 x1 x2 = e at hd
  generalize val_main_v240 x0 x1 x2 = s at hs
  pointwise [val_main_cst_73, val_main_cst_76, val_main_cst_77]
  simp only [hd, hs, coe_sum, word_rows]
  rw [div_coe _ _ (by norm_num), div_coe _ _ (by norm_num), ← EReal.coe_add]
  refine congrArg (fun x : ℝ => (x : EReal)) ?_
  simp only [Vq.loss, Vq.continuous, ← Finset.sum_mul]
  ring

/-- The first result. -/
theorem Reals.result0 (h : Reals x0 x1 x2 q Z C) :
    val_main_v235 x0 x1 x2 = fun i => ((Vq.quantized q Z C (i 0) (i 1) : ℝ) : EReal) := by
  funext i
  rw [show i = ix2 (i 0) (i 1) from eq_ix2 i]
  exact h.quantized _ _

/-- The second result. -/
theorem Reals.result1 (h : Reals x0 x1 x2 q Z C) : val_main_v260 x0 x1 x2 = fun _ => ((Vq.loss q Z C : ℝ) : EReal) :=
  funext fun _ => h.loss _

/-- The third result. -/
theorem Reals.result2 (h : Reals x0 x1 x2 q Z C) : val_main_v261 x0 x1 x2 = fun _ => ((Vq.perplexity q Z C : ℝ) : EReal) :=
  funext fun _ => h.perplexity _

end Cert.ReferenceIdeal.Value

end
-- ==== Proof.Equal.lean ====
/-
  The kernel and the reference end with equal results, for arguments under the precondition.
-/
module

public import proofs.«01_k».proof.Defs
public import proofs.«01_k».proof.Proof.Finite
public import proofs.«01_k».proof.Proof.Kernel.Precision
public import proofs.«01_k».proof.Proof.Kernel.Results
public import proofs.«01_k».proof.Proof.Reference.Precision
public import proofs.«01_k».proof.Proof.Reference.Results

@[expose] public section

set_option maxRecDepth 16384

noncomputable section

namespace Cert.Proof

open Cert.Vq Idealize.ShloMosaic Idealize.SL.Sem

/-- The real entries that the two programs' arguments hold on a device: under the precondition both programs read the same reals. -/
theorem exists_reals (m : (ℓ : Loc Cert.KernelIdeal.nD Cert.KernelIdeal.τ Cert.KernelIdeal.sig) → Buf (Elt Ideal) ℓ)
    (h : Pre_KernelIdeal_finite (hPre_finite := Cert.Pre_finite.facts) m) (c : Dev Cert.KernelIdeal.nD) :
    ∃ (q : ℝ) (Z : Fin 16384 → Fin 256 → ℝ) (C : Fin 8192 → Fin 256 → ℝ), Cert.KernelIdeal.Results.Reals m c q Z C
      ∧ Cert.ReferenceIdeal.Value.Reals (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) q Z C := by
  obtain ⟨h0, h2⟩ := @Cert.Pre_finite.reals Cert.Pre_finite.facts _ _ _ (h c)
  obtain ⟨q, hq⟩ := exists_precision (m ((c.tc : Thread Cert.KernelIdeal.nD Cert.KernelIdeal.τ).loc Cert.KernelIdeal.main_arg1) (ix1 0))
  refine ⟨q, fun n d => (h0 (ix2 n d)).choose, fun k d => (h2 (ix2 k d)).choose, ⟨fun t => ?_, fun n d => ?_, fun k d => ?_⟩,
    ⟨?_, fun n d => ?_, fun k d => ?_⟩⟩
  · exact (Cert.KernelIdeal.Arrays.prec_eq m c t).trans ((Cert.KernelIdeal.Arrays.precision_apply _).trans hq)
  · exact (h0 (ix2 n d)).choose_spec
  · exact (h2 (ix2 k d)).choose_spec
  · exact (Cert.ReferenceIdeal.Value.precision_apply _).trans hq
  · exact (h0 (ix2 n d)).choose_spec
  · exact (h2 (ix2 k d)).choose_spec

/-- The kernel and the reference agree over the extended reals. -/
theorem algebraic : algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hpre hagree
  refine ⟨fun c => (Cert.KernelIdeal.Gen.dats m 0 c).arrAt 4 Cert.KernelIdeal.cfg0.N,
    fun c => (Cert.KernelIdeal.Gen.dats m 0 c).arrAt 5 Cert.KernelIdeal.cfg0.N,
    fun c => (Cert.KernelIdeal.Gen.dats m 0 c).arrAt 6 Cert.KernelIdeal.cfg0.N, Cert.KernelIdeal.Value.run_blocks m g, ?_⟩
  refine (θ_run _ _ _).mono (fun r h c => ?_) (Cert.ReferenceIdeal.Value.run m' g')
  obtain ⟨r0, r1, r2, kept⟩ := h c
  obtain ⟨a0, a1, a2⟩ := hagree c
  obtain ⟨q, Z, C, hk, hr⟩ := exists_reals m hpre c
  rw [← a0, ← a1, ← a2] at hr
  exact ⟨r0.trans ((Cert.ReferenceIdeal.Read.val_main_v235_eq _).trans (hr.result0.trans hk.result0.symm)),
    r1.trans ((Cert.ReferenceIdeal.Read.val_main_v260_eq _).trans (hr.result1.trans hk.result1.symm)),
    r2.trans ((Cert.ReferenceIdeal.Read.val_main_v261_eq _).trans (hr.result2.trans hk.result2.symm)), kept⟩

end Cert.Proof

end
-- ==== Proof.lean ====
/-
  The certificate: the side conditions, the three frames, that the idealization is the kernel's own text, and that the
  kernel and the reference agree over the extended reals.
-/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Equal

@[expose] public section

open Idealize.ShloMosaic Idealize.SL.Sem

/-- The reference ends with its arguments unchanged; it has no semaphores. -/
theorem Cert.Proof.frame_reference : Cert.quiescent_ReferenceIdeal (hReferenceIdeal := Cert.ReferenceIdeal.Gen.facts) := fun m g _ =>
  (θ_run Cert.ReferenceIdeal.defs _ _).mono (fun r h => ⟨fun c => (h c).2.2.2, sem_eq_zero_of_no_sems (by decide) r.2⟩)
    (Cert.ReferenceIdeal.Value.run (F := Ideal) m g)

/-- Every claim. -/
theorem Cert.Proof.claim : Cert.Claim :=
  ⟨Cert.Kernel.Gen.facts, Cert.KernelIdeal.Gen.facts, Cert.ReferenceIdeal.Gen.facts, Cert.Pre_finite.facts,
    fun m g _ => Cert.Kernel.Gen.frame m g, fun m g _ => Cert.KernelIdeal.Gen.frame m g, fun m g _ => Cert.KernelIdeal.Gen.frame m g,
    Cert.Proof.frame_reference, fun m g _ => Cert.Proof.frame_reference m g trivial, trivial, Cert.Proof.algebraic⟩
